-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2 (m : (ℓ : Loc Cert.Reference2.nD Cert.Reference2.τ Cert.Reference2.sig) → Buf (Elt Bits) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Reference3 (m : (ℓ : Loc Cert.Reference3.nD Cert.Reference3.τ Cert.Reference3.sig) → Buf (Elt Bits) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_modulation [hPre_finite_modulation : Cert.Pre_finite_modulation.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_modulation.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_modulation [hPre_finite_modulation : Cert.Pre_finite_modulation.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_modulation.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Reference4 (m : (ℓ : Loc Cert.Reference4.nD Cert.Reference4.τ Cert.Reference4.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2 [hReference2 : Cert.Reference2.Facts] : Prop :=
  ∀ (m : (ℓ : Loc Cert.Reference2.nD Cert.Reference2.τ Cert.Reference2.sig) → Buf (Elt Bits) ℓ) (g : Dev Cert.Reference2.nD → PrngReg), Pre_Reference2 m →
    θ_run (Cert.Reference2.defs (F := Bits)) (onTc (τ := Cert.Reference2.τ) (Cert.Reference2.main (F := Bits))) ⟨m, fun _ => 0, g⟩ (fun r => (∀ c : Dev Cert.Reference2.nD,
      r.2.mem ((c.tc : Thread Cert.Reference2.nD Cert.Reference2.τ).loc Cert.Reference2.main_arg0) = m ((c.tc : Thread Cert.Reference2.nD Cert.Reference2.τ).loc Cert.Reference2.main_arg0)
      ∧ r.2.mem ((c.tc : Thread Cert.Reference2.nD Cert.Reference2.τ).loc Cert.Reference2.main_arg1) = m ((c.tc : Thread Cert.Reference2.nD Cert.Reference2.τ).loc Cert.Reference2.main_arg1)
      ∧ r.2.mem ((c.tc : Thread Cert.Reference2.nD Cert.Reference2.τ).loc Cert.Reference2.main_arg2) = m ((c.tc : Thread Cert.Reference2.nD Cert.Reference2.τ).loc Cert.Reference2.main_arg2)
      ∧ r.2.mem ((c.tc : Thread Cert.Reference2.nD Cert.Reference2.τ).loc Cert.Reference2.main_arg3) = m ((c.tc : Thread Cert.Reference2.nD Cert.Reference2.τ).loc Cert.Reference2.main_arg3)
      ∧ r.2.mem ((c.tc : Thread Cert.Reference2.nD Cert.Reference2.τ).loc Cert.Reference2.main_arg4) = m ((c.tc : Thread Cert.Reference2.nD Cert.Reference2.τ).loc Cert.Reference2.main_arg4)
      ∧ r.2.mem ((c.tc : Thread Cert.Reference2.nD Cert.Reference2.τ).loc Cert.Reference2.main_arg5) = m ((c.tc : Thread Cert.Reference2.nD Cert.Reference2.τ).loc Cert.Reference2.main_arg5)
      ∧ r.2.mem ((c.tc : Thread Cert.Reference2.nD Cert.Reference2.τ).loc Cert.Reference2.main_arg6) = m ((c.tc : Thread Cert.Reference2.nD Cert.Reference2.τ).loc Cert.Reference2.main_arg6)
      ∧ r.2.mem ((c.tc : Thread Cert.Reference2.nD Cert.Reference2.τ).loc Cert.Reference2.main_arg7) = m ((c.tc : Thread Cert.Reference2.nD Cert.Reference2.τ).loc Cert.Reference2.main_arg7)
      ∧ r.2.mem ((c.tc : Thread Cert.Reference2.nD Cert.Reference2.τ).loc Cert.Reference2.main_arg8) = m ((c.tc : Thread Cert.Reference2.nD Cert.Reference2.τ).loc Cert.Reference2.main_arg8)
      ∧ r.2.mem ((c.tc : Thread Cert.Reference2.nD Cert.Reference2.τ).loc Cert.Reference2.main_arg9) = m ((c.tc : Thread Cert.Reference2.nD Cert.Reference2.τ).loc Cert.Reference2.main_arg9)
      ∧ r.2.mem ((c.tc : Thread Cert.Reference2.nD Cert.Reference2.τ).loc Cert.Reference2.main_arg10) = m ((c.tc : Thread Cert.Reference2.nD Cert.Reference2.τ).loc Cert.Reference2.main_arg10)
      ∧ r.2.mem ((c.tc : Thread Cert.Reference2.nD Cert.Reference2.τ).loc Cert.Reference2.main_arg11) = m ((c.tc : Thread Cert.Reference2.nD Cert.Reference2.τ).loc Cert.Reference2.main_arg11)
      ∧ r.2.mem ((c.tc : Thread Cert.Reference2.nD Cert.Reference2.τ).loc Cert.Reference2.main_arg12) = m ((c.tc : Thread Cert.Reference2.nD Cert.Reference2.τ).loc Cert.Reference2.main_arg12)
      ∧ r.2.mem ((c.tc : Thread Cert.Reference2.nD Cert.Reference2.τ).loc Cert.Reference2.main_arg13) = m ((c.tc : Thread Cert.Reference2.nD Cert.Reference2.τ).loc Cert.Reference2.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3 [hReference3 : Cert.Reference3.Facts] : Prop :=
  ∀ (m : (ℓ : Loc Cert.Reference3.nD Cert.Reference3.τ Cert.Reference3.sig) → Buf (Elt Bits) ℓ) (g : Dev Cert.Reference3.nD → PrngReg), Pre_Reference3 m →
    θ_run (Cert.Reference3.defs (F := Bits)) (onTc (τ := Cert.Reference3.τ) (Cert.Reference3.main (F := Bits))) ⟨m, fun _ => 0, g⟩ (fun r => (∀ c : Dev Cert.Reference3.nD,
      r.2.mem ((c.tc : Thread Cert.Reference3.nD Cert.Reference3.τ).loc Cert.Reference3.main_arg0) = m ((c.tc : Thread Cert.Reference3.nD Cert.Reference3.τ).loc Cert.Reference3.main_arg0)
      ∧ r.2.mem ((c.tc : Thread Cert.Reference3.nD Cert.Reference3.τ).loc Cert.Reference3.main_arg1) = m ((c.tc : Thread Cert.Reference3.nD Cert.Reference3.τ).loc Cert.Reference3.main_arg1)
      ∧ r.2.mem ((c.tc : Thread Cert.Reference3.nD Cert.Reference3.τ).loc Cert.Reference3.main_arg2) = m ((c.tc : Thread Cert.Reference3.nD Cert.Reference3.τ).loc Cert.Reference3.main_arg2)
      ∧ r.2.mem ((c.tc : Thread Cert.Reference3.nD Cert.Reference3.τ).loc Cert.Reference3.main_arg3) = m ((c.tc : Thread Cert.Reference3.nD Cert.Reference3.τ).loc Cert.Reference3.main_arg3)
      ∧ r.2.mem ((c.tc : Thread Cert.Reference3.nD Cert.Reference3.τ).loc Cert.Reference3.main_arg4) = m ((c.tc : Thread Cert.Reference3.nD Cert.Reference3.τ).loc Cert.Reference3.main_arg4)
      ∧ r.2.mem ((c.tc : Thread Cert.Reference3.nD Cert.Reference3.τ).loc Cert.Reference3.main_arg5) = m ((c.tc : Thread Cert.Reference3.nD Cert.Reference3.τ).loc Cert.Reference3.main_arg5)
      ∧ r.2.mem ((c.tc : Thread Cert.Reference3.nD Cert.Reference3.τ).loc Cert.Reference3.main_arg6) = m ((c.tc : Thread Cert.Reference3.nD Cert.Reference3.τ).loc Cert.Reference3.main_arg6)
      ∧ r.2.mem ((c.tc : Thread Cert.Reference3.nD Cert.Reference3.τ).loc Cert.Reference3.main_arg7) = m ((c.tc : Thread Cert.Reference3.nD Cert.Reference3.τ).loc Cert.Reference3.main_arg7)
      ∧ r.2.mem ((c.tc : Thread Cert.Reference3.nD Cert.Reference3.τ).loc Cert.Reference3.main_arg8) = m ((c.tc : Thread Cert.Reference3.nD Cert.Reference3.τ).loc Cert.Reference3.main_arg8)
      ∧ r.2.mem ((c.tc : Thread Cert.Reference3.nD Cert.Reference3.τ).loc Cert.Reference3.main_arg9) = m ((c.tc : Thread Cert.Reference3.nD Cert.Reference3.τ).loc Cert.Reference3.main_arg9)
      ∧ r.2.mem ((c.tc : Thread Cert.Reference3.nD Cert.Reference3.τ).loc Cert.Reference3.main_arg10) = m ((c.tc : Thread Cert.Reference3.nD Cert.Reference3.τ).loc Cert.Reference3.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite_modulation [hKernel4Ideal : Cert.Kernel4Ideal.Facts] [hPre_finite_modulation : Cert.Pre_finite_modulation.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_modulation m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite_modulation [hReference4Ideal : Cert.Reference4Ideal.Facts] [hPre_finite_modulation : Cert.Pre_finite_modulation.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_modulation m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4 [hReference4 : Cert.Reference4.Facts] : Prop :=
  ∀ (m : (ℓ : Loc Cert.Reference4.nD Cert.Reference4.τ Cert.Reference4.sig) → Buf (Elt Bits) ℓ) (g : Dev Cert.Reference4.nD → PrngReg), Pre_Reference4 m →
    θ_run (Cert.Reference4.defs (F := Bits)) (onTc (τ := Cert.Reference4.τ) (Cert.Reference4.main (F := Bits))) ⟨m, fun _ => 0, g⟩ (fun r => (∀ c : Dev Cert.Reference4.nD,
      r.2.mem ((c.tc : Thread Cert.Reference4.nD Cert.Reference4.τ).loc Cert.Reference4.main_arg0) = m ((c.tc : Thread Cert.Reference4.nD Cert.Reference4.τ).loc Cert.Reference4.main_arg0)
      ∧ r.2.mem ((c.tc : Thread Cert.Reference4.nD Cert.Reference4.τ).loc Cert.Reference4.main_arg1) = m ((c.tc : Thread Cert.Reference4.nD Cert.Reference4.τ).loc Cert.Reference4.main_arg1)
      ∧ r.2.mem ((c.tc : Thread Cert.Reference4.nD Cert.Reference4.τ).loc Cert.Reference4.main_arg2) = m ((c.tc : Thread Cert.Reference4.nD Cert.Reference4.τ).loc Cert.Reference4.main_arg2)
      ∧ r.2.mem ((c.tc : Thread Cert.Reference4.nD Cert.Reference4.τ).loc Cert.Reference4.main_arg3) = m ((c.tc : Thread Cert.Reference4.nD Cert.Reference4.τ).loc Cert.Reference4.main_arg3))
      ∧ r.2.sem = fun _ => 0)

def preserves_Kernel_KernelIdeal : Prop :=
  True

def preserves_Reference_ReferenceIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "sqrt_2_pi_cubic" .f32 0x3D122279#32 ((80338380498831 / 2251799813685248 : ℝ) : EReal)

def preserves_Reference2_Reference2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v23)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v119) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def preserves_Reference3_Reference3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v140_1)) (v1 : (c : Dev Cert.Kernel3Ideal.nD) → Buf (Elt Ideal) ((c.tc : Thread Cert.Kernel3Ideal.nD Cert.Kernel3Ideal.τ).loc Cert.Kernel3Ideal.main_v140_2)) (v2 : (c : Dev Cert.Kernel3Ideal.nD) → Buf (Elt Ideal) ((c.tc : Thread Cert.Kernel3Ideal.nD Cert.Kernel3Ideal.τ).loc Cert.Kernel3Ideal.main_v140_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v140_1) = v0 c
          ∧ r.2.mem ((c.tc : Thread Cert.Kernel3Ideal.nD Cert.Kernel3Ideal.τ).loc Cert.Kernel3Ideal.main_v140_2) = v1 c
          ∧ r.2.mem ((c.tc : Thread Cert.Kernel3Ideal.nD Cert.Kernel3Ideal.τ).loc Cert.Kernel3Ideal.main_v140_3) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v42) = v1 c
          ∧ r.2.mem ((c.tc : Thread Cert.Reference3Ideal.nD Cert.Reference3Ideal.τ).loc Cert.Reference3Ideal.main_v45) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def preserves_Reference4_Reference4Ideal : Prop :=
  True

def algebraic_Kernel4Ideal_Reference4Ideal_pre_finite_modulation [hKernel4Ideal : Cert.Kernel4Ideal.Facts] [hReference4Ideal : Cert.Reference4Ideal.Facts] [hPre_finite_modulation : Cert.Pre_finite_modulation.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_modulation m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hReference2 : Cert.Reference2.Facts) (hKernel3 : Cert.Kernel3.Facts) (hKernel3Ideal : Cert.Kernel3Ideal.Facts) (hReference3Ideal : Cert.Reference3Ideal.Facts) (hReference3 : Cert.Reference3.Facts) (hKernel4 : Cert.Kernel4.Facts) (hKernel4Ideal : Cert.Kernel4Ideal.Facts) (hReference4Ideal : Cert.Reference4Ideal.Facts) (hReference4 : Cert.Reference4.Facts) (hPre_finite_scores : Cert.Pre_finite_scores.Facts) (hPre_finite_modulation : Cert.Pre_finite_modulation.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference2 (hReference2 := hReference2)
    ∧ quiescent_Kernel3 (hKernel3 := hKernel3)
    ∧ quiescent_Kernel3Ideal (hKernel3Ideal := hKernel3Ideal)
    ∧ quiescent_Reference3Ideal (hReference3Ideal := hReference3Ideal)
    ∧ quiescent_Reference3 (hReference3 := hReference3)
    ∧ quiescent_Kernel4 (hKernel4 := hKernel4)
    ∧ quiescent_Kernel4Ideal (hKernel4Ideal := hKernel4Ideal)
    ∧ quiescent_Kernel4Ideal_pre_finite_modulation (hKernel4Ideal := hKernel4Ideal) (hPre_finite_modulation := hPre_finite_modulation)
    ∧ quiescent_Reference4Ideal (hReference4Ideal := hReference4Ideal)
    ∧ quiescent_Reference4Ideal_pre_finite_modulation (hReference4Ideal := hReference4Ideal) (hPre_finite_modulation := hPre_finite_modulation)
    ∧ quiescent_Reference4 (hReference4 := hReference4)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ preserves_Reference2_Reference2Ideal
    ∧ algebraic_Kernel2Ideal_Reference2Ideal (hKernel2Ideal := hKernel2Ideal) (hReference2Ideal := hReference2Ideal)
    ∧ preserves_Kernel3_Kernel3Ideal
    ∧ preserves_Reference3_Reference3Ideal
    ∧ algebraic_Kernel3Ideal_Reference3Ideal (hKernel3Ideal := hKernel3Ideal) (hReference3Ideal := hReference3Ideal)
    ∧ preserves_Kernel4_Kernel4Ideal
    ∧ preserves_Reference4_Reference4Ideal
    ∧ algebraic_Kernel4Ideal_Reference4Ideal_pre_finite_modulation (hKernel4Ideal := hKernel4Ideal) (hReference4Ideal := hReference4Ideal) (hPre_finite_modulation := hPre_finite_modulation)
-- ==== Pre_finite_modulation.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2x1024x6144 : S_.BroadcastsInDim S2x1024x6144 (![] : Fin 0 → Fin S2x1024x6144.rank)
  reducesTo_S2x1024x6144_S_d0_1_2 : S2x1024x6144.ReducesTo [0, 1, 2] S_

variable [Facts]

def fn {F : FTy → Type} [FloatOps F] (main_arg0 : FVec F S4x1024 .f32) (main_arg1 : FVec F S1024 .f32) (main_arg2 : FVec F S2x1024x6144 .f32) (main_arg3 : FVec F S2x6144 .f32) : IVec S_ 1 :=
  let main_v0 : FVec F S4x1024 .f32 := Host.absf main_arg0
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2x1024x6144 .f32 := Host.absf main_arg2
  let main_cst_2 : FVec F S_ .f32 := constant S_ .f32 0x7F800000#32
  let main_v10 : FVec F S2x1024x6144 .f32 := broadcastInDim S2x1024x6144 ![] bcast_S_S2x1024x6144 main_cst_2
  let main_v11 : IVec S2x1024x6144 1 := cmpf .olt main_v9 main_v10
  let main_c_3 : IVec S_ 1 := constantI S_ 1 1#1
  let main_v12 : IVec S_ 1 := (fun x v => Host.reduce IntOp.andi x v reducesTo_S2x1024x6144_S_d0_1_2 h_S_) main_v11 main_c_3
  let main_v13 : IVec S_ 1 := andi main_v8 main_v12
  main_v13
-- ==== Pre_finite_scores.lean ====
abbrev S4x8192x4x96 : Shape := ⟨4, ![4, 8192, 4, 96]⟩
abbrev S4x256x4x96 : Shape := ⟨4, ![4, 256, 4, 96]⟩
abbrev S4x256x4x64 : Shape := ⟨4, ![4, 256, 4, 64]⟩
abbrev S4x8192x4x64 : Shape := ⟨4, ![4, 8192, 4, 64]⟩
abbrev S_ : Shape := ⟨0, ![]⟩

class Facts : Prop where
  bcast_S_S4x8192x4x96 : S_.BroadcastsInDim S4x8192x4x96 (![] : Fin 0 → Fin S4x8192x4x96.rank)
  reducesTo_S4x8192x4x96_S_d0_1_2_3 : S4x8192x4x96.ReducesTo [0, 1, 2, 3] S_
  h_S_ : 0 < S_.numel
  bcast_S_S4x256x4x96 : S_.BroadcastsInDim S4x256x4x96 (![] : Fin 0 → Fin S4x256x4x96.rank)
  reducesTo_S4x256x4x96_S_d0_1_2_3 : S4x256x4x96.ReducesTo [0, 1, 2, 3] S_

variable [Facts]

def fn {F : FTy → Type} [FloatOps F] (main_arg0 : FVec F S4x8192x4x96 .f32) (main_arg1 : FVec F S4x256x4x96 .f32) (main_arg2 : FVec F S4x256x4x64 .f32) (main_arg3 : FVec F S4x8192x4x96 .f32) (main_arg4 : FVec F S4x8192x4x64 .f32) : IVec S_ 1 :=
  let main_v0 : FVec F S4x8192x4x96 .f32 := Host.absf main_arg0
  let main_cst : FVec F S_ .f32 := constant S_ .f32 0x7F800000#32
  let main_v1 : FVec F S4x8192x4x96 .f32 := broadcastInDim S4x8192x4x96 ![] bcast_S_S4x8192x4x96 main_cst
  let main_v2 : IVec S4x8192x4x96 1 := cmpf .olt main_v0 main_v1
  let main_c : IVec S_ 1 := constantI S_ 1 1#1
  let main_v3 : IVec S_ 1 := (fun x v => Host.reduce IntOp.andi x v reducesTo_S4x8192x4x96_S_d0_1_2_3 h_S_) main_v2 main_c
  let main_v4 : FVec F S4x256x4x96 .f32 := Host.absf main_arg1
  let main_cst_0 : FVec F S_ .f32 := constant S_ .f32 0x7F800000#32
  let main_v5 : FVec F S4x256x4x96 .f32 := broadcastInDim S4x256x4x96 ![] bcast_S_S4x256x4x96 main_cst_0
  let main_v6 : IVec S4x256x4x96 1 := cmpf .olt main_v4 main_v5
  let main_c_1 : IVec S_ 1 := constantI S_ 1 1#1
  let main_v7 : IVec S_ 1 := (fun x v => Host.reduce IntOp.andi x v reducesTo_S4x256x4x96_S_d0_1_2_3 h_S_) main_v6 main_c_1
  let main_v8 : IVec S_ 1 := andi main_v3 main_v7
  let main_v9 : FVec F S4x8192x4x96 .f32 := Host.absf main_arg3
  let main_cst_2 : FVec F S_ .f32 := constant S_ .f32 0x7F800000#32
  let main_v10 : FVec F S4x8192x4x96 .f32 := broadcastInDim S4x8192x4x96 ![] bcast_S_S4x8192x4x96 main_cst_2
  let main_v11 : IVec S4x8192x4x96 1 := cmpf .olt main_v9 main_v10
  let main_c_3 : IVec S_ 1 := constantI S_ 1 1#1
  let main_v12 : IVec S_ 1 := (fun x v => Host.reduce IntOp.andi x v reducesTo_S4x8192x4x96_S_d0_1_2_3 h_S_) main_v11 main_c_3
  let main_v13 : IVec S_ 1 := andi main_v8 main_v12
  main_v13
-- ==== Kernel.lean ====
abbrev S4x8192x4x96 : Shape := ⟨4, ![4, 8192, 4, 96]⟩
abbrev S4x256x4x96 : Shape := ⟨4, ![4, 256, 4, 96]⟩
abbrev S4x256x4x64 : Shape := ⟨4, ![4, 256, 4, 64]⟩
abbrev S4x8192x4x64 : Shape := ⟨4, ![4, 8192, 4, 64]⟩
abbrev S_ : Shape := ⟨0, ![]⟩
abbrev S4x8192x4x32 : Shape := ⟨4, ![4, 8192, 4, 32]⟩
abbrev S4x8192x4x128 : Shape := ⟨4, ![4, 8192, 4, 128]⟩
abbrev S4x8192x512 : Shape := ⟨3, ![4, 8192, 512]⟩
abbrev S4x8448x4x96 : Shape := ⟨4, ![4, 8448, 4, 96]⟩
abbrev S4x8448x4x32 : Shape := ⟨4, ![4, 8448, 4, 32]⟩
abbrev S4x8448x4x128 : Shape := ⟨4, ![4, 8448, 4, 128]⟩
abbrev S4x8448x512 : Shape := ⟨3, ![4, 8448, 512]⟩
abbrev S4x8448x4x64 : Shape := ⟨4, ![4, 8448, 4, 64]⟩
abbrev S4x8192x256 : Shape := ⟨3, ![4, 8192, 256]⟩
abbrev S1x512x512 : Shape := ⟨3, ![1, 512, 512]⟩
abbrev S1x2816x512 : Shape := ⟨3, ![1, 2816, 512]⟩
abbrev S1x512x256 : Shape := ⟨3, ![1, 512, 256]⟩
abbrev S4x512x128 : Shape := ⟨3, ![4, 512, 128]⟩
abbrev S1x512x128 : Shape := ⟨3, ![1, 512, 128]⟩
abbrev S512x128 : Shape := ⟨2, ![512, 128]⟩
abbrev S1x2816x128 : Shape := ⟨3, ![1, 2816, 128]⟩
abbrev S2816x128 : Shape := ⟨2, ![2816, 128]⟩
abbrev S512x2816 : Shape := ⟨2, ![512, 2816]⟩
abbrev S512 : Shape := ⟨1, ![512]⟩
abbrev S512x1 : Shape := ⟨2, ![512, 1]⟩
abbrev S512x256 : Shape := ⟨2, ![512, 256]⟩

abbrev nBuf : Space → Nat
  | .hbm => 38
  | .vmem => 11
  | .smem => 0
  | _ => 0

abbrev bufTy : (tb : Table) → Fin (tcTables nBuf tb) → BufTy
  | .hbm, ⟨0, _⟩ => ⟨S4x8192x4x96, .f32⟩
  | .hbm, ⟨1, _⟩ => ⟨S4x256x4x96, .f32⟩
  | .hbm, ⟨2, _⟩ => ⟨S4x256x4x64, .f32⟩
  | .hbm, ⟨3, _⟩ => ⟨S4x8192x4x96, .f32⟩
  | .hbm, ⟨4, _⟩ => ⟨S4x8192x4x64, .f32⟩
  | .hbm, ⟨5, _⟩ => ⟨S_, .f32⟩
  | .hbm, ⟨6, _⟩ => ⟨S4x8192x4x32, .f32⟩
  | .hbm, ⟨7, _⟩ => ⟨S4x8192x4x128, .f32⟩
  | .hbm, ⟨8, _⟩ => ⟨S4x8192x512, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8192x512, .f32⟩
  | .hbm, ⟨14, _⟩ => ⟨S4x8192x512, .f32⟩
  | .hbm, ⟨15, _⟩ => ⟨S4x8192x512, .bf16⟩
  | .hbm, ⟨16, _⟩ => ⟨S4x8448x4x96, .f32⟩
  | .hbm, ⟨17, _⟩ => ⟨S_, .f32⟩
  | .hbm, ⟨18, _⟩ => ⟨S4x8448x4x32, .f32⟩
  | .hbm, ⟨19, _⟩ => ⟨S4x8448x4x128, .f32⟩
  | .hbm, ⟨20, _⟩ => ⟨S4x8448x512, .f32⟩
  | .hbm, ⟨21, _⟩ => ⟨S4x8448x512, .bf16⟩
  | .hbm, ⟨22, _⟩ => ⟨S4x8448x4x64, .f32⟩
  | .hbm, ⟨23, _⟩ => ⟨S_, .f32⟩
  | .hbm, ⟨24, _⟩ => ⟨S4x8448x4x64, .f32⟩
  | .hbm, ⟨25, _⟩ => ⟨S4x8448x4x128, .i32⟩
  | .hbm, ⟨26, _⟩ => ⟨S_, .i32⟩
  | .hbm, ⟨27, _⟩ => ⟨S4x8448x4x128, .i32⟩
  | .hbm, ⟨28, _⟩ => ⟨S4x8448x4x128, .i32⟩
  | .hbm, ⟨29, _⟩ => ⟨S_, .i32⟩
  | .hbm, ⟨30, _⟩ => ⟨S4x8448x4x128, .i32⟩
  | .hbm, ⟨31, _⟩ => ⟨S4x8448x4x128, .i1⟩
  | .hbm, ⟨32, _⟩ => ⟨S4x8448x4x128, .f32⟩
  | .hbm, ⟨33, _⟩ => ⟨S4x8448x4x128, .f32⟩
  | .hbm, ⟨34, _⟩ => ⟨S4x8448x4x128, .f32⟩
  | .hbm, ⟨35, _⟩ => ⟨S4x8448x512, .f32⟩
  | .hbm, ⟨36, _⟩ => ⟨S4x8448x512, .bf16⟩
  | .hbm, ⟨37, _⟩ => ⟨S4x8192x256, .bf16⟩
  | .local _ .vmem, ⟨0, _⟩ => ⟨S1x512x512, .bf16⟩
  | .local _ .vmem, ⟨1, _⟩ => ⟨S1x512x512, .bf16⟩
  | .local _ .vmem, ⟨2, _⟩ => ⟨S1x2816x512, .bf16⟩
  | .local _ .vmem, ⟨3, _⟩ => ⟨S1x2816x512, .bf16⟩
  | .local _ .vmem, ⟨4, _⟩ => ⟨S1x2816x512, .bf16⟩
  | .local _ .vmem, ⟨5, _⟩ => ⟨S1x2816x512, .bf16⟩
  | .local _ .vmem, ⟨6, _⟩ => ⟨S1x512x256, .bf16⟩
  | .local _ .vmem, ⟨7, _⟩ => ⟨S1x512x256, .bf16⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | _, _ => ⟨S4x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 3], ![false, false, false]⟩

def k0_cond2 (i : grid0.Coords) : BitVec 1 :=
  let arg2 : BitVec 32 := BitVec.ofNat 32 (i 2).val
  let c2_i32 : BitVec 32 := 2#32
  let v327 : BitVec 1 := Scalar.cmpi .eq arg2 c2_i32
  let v328 : BitVec 32 := Scalar.extui v327
  let c0_i32_113 : BitVec 32 := 0#32
  let v329 : BitVec 1 := Scalar.cmpi .ne v328 c0_i32_113
  v329

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference.lean ====
abbrev S4x8192x4x96 : Shape := ⟨4, ![4, 8192, 4, 96]⟩
abbrev S4x256x4x96 : Shape := ⟨4, ![4, 256, 4, 96]⟩
abbrev S4x256x4x64 : Shape := ⟨4, ![4, 256, 4, 64]⟩
abbrev S4x8192x4x64 : Shape := ⟨4, ![4, 8192, 4, 64]⟩
abbrev S4x8448x4x96 : Shape := ⟨4, ![4, 8448, 4, 96]⟩
abbrev S4x8448x4x64 : Shape := ⟨4, ![4, 8448, 4, 64]⟩
abbrev S4x4x8192x8448 : Shape := ⟨4, ![4, 4, 8192, 8448]⟩
abbrev S_ : Shape := ⟨0, ![]⟩
abbrev S4x4x8192 : Shape := ⟨3, ![4, 4, 8192]⟩
abbrev S4x4x8192x1 : Shape := ⟨4, ![4, 4, 8192, 1]⟩
abbrev S4x4x64x8192 : Shape := ⟨4, ![4, 4, 64, 8192]⟩
abbrev S4x8192x256 : Shape := ⟨3, ![4, 8192, 256]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x4x96, .f32⟩
  | .hbm, ⟨1, _⟩ => ⟨S4x256x4x96, .f32⟩
  | .hbm, ⟨2, _⟩ => ⟨S4x256x4x64, .f32⟩
  | .hbm, ⟨3, _⟩ => ⟨S4x8192x4x96, .f32⟩
  | .hbm, ⟨4, _⟩ => ⟨S4x8192x4x64, .f32⟩
  | .hbm, ⟨5, _⟩ => ⟨S4x8448x4x96, .f32⟩
  | .hbm, ⟨6, _⟩ => ⟨S4x8448x4x64, .f32⟩
  | .hbm, ⟨7, _⟩ => ⟨S4x4x8192x8448, .f32⟩
  | .hbm, ⟨8, _⟩ => ⟨S_, .f32⟩
  | .hbm, ⟨9, _⟩ => ⟨S4x4x8192x8448, .f32⟩
  | .hbm, ⟨10, _⟩ => ⟨S4x4x8192x8448, .f32⟩
  | .hbm, ⟨11, _⟩ => ⟨S_, .f32⟩
  | .hbm, ⟨12, _⟩ => ⟨S4x4x8192, .f32⟩
  | .hbm, ⟨13, _⟩ => ⟨S_, .f32⟩
  | .hbm, ⟨14, _⟩ => ⟨S4x4x8192, .f32⟩
  | .hbm, ⟨15, _⟩ => ⟨S4x4x8192, .f32⟩
  | .hbm, ⟨16, _⟩ => ⟨S4x4x8192x1, .f32⟩
  | .hbm, ⟨17, _⟩ => ⟨S4x4x8192x8448, .f32⟩
  | .hbm, ⟨18, _⟩ => ⟨S4x4x8192x8448, .f32⟩
  | .hbm, ⟨19, _⟩ => ⟨S4x4x8192x8448, .f32⟩
  | .hbm, ⟨20, _⟩ => ⟨S_, .f32⟩
  | .hbm, ⟨21, _⟩ => ⟨S4x4x8192, .f32⟩
  | .hbm, ⟨22, _⟩ => ⟨S4x4x8192x1, .f32⟩
  | .hbm, ⟨23, _⟩ => ⟨S4x4x8192x8448, .f32⟩
  | .hbm, ⟨24, _⟩ => ⟨S4x4x8192x8448, .f32⟩
  | .hbm, ⟨25, _⟩ => ⟨S4x4x64x8192, .f32⟩
  | .hbm, ⟨26, _⟩ => ⟨S4x8192x4x64, .f32⟩
  | .hbm, ⟨27, _⟩ => ⟨S4x8192x256, .f32⟩
  | .hbm, ⟨28, _⟩ => ⟨S4x8192x256, .bf16⟩
  | _, _ => ⟨S4x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]
-- ==== Kernel2.lean ====
abbrev S4x8192x256 : Shape := ⟨3, ![4, 8192, 256]⟩
abbrev S4x8192x1024 : Shape := ⟨3, ![4, 8192, 1024]⟩
abbrev S2x4x6144 : Shape := ⟨3, ![2, 4, 6144]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S_ : Shape := ⟨0, ![]⟩
abbrev S2x8x6144 : Shape := ⟨3, ![2, 8, 6144]⟩
abbrev S2x8x1x6144 : Shape := ⟨4, ![2, 8, 1, 6144]⟩
abbrev S2x1x1024 : Shape := ⟨3, ![2, 1, 1024]⟩
abbrev S2816 : Shape := ⟨1, ![2816]⟩
abbrev S5632 : Shape := ⟨1, ![5632]⟩
abbrev S1x1x5632 : Shape := ⟨3, ![1, 1, 5632]⟩
abbrev S1x5632 : Shape := ⟨2, ![1, 5632]⟩
abbrev S2x1x5632 : Shape := ⟨3, ![2, 1, 5632]⟩
abbrev S1x16x256 : Shape := ⟨3, ![1, 16, 256]⟩
abbrev S1x512x256 : Shape := ⟨3, ![1, 512, 256]⟩
abbrev S1x16x1024 : Shape := ⟨3, ![1, 16, 1024]⟩
abbrev S1x512x1024 : Shape := ⟨3, ![1, 512, 1024]⟩
abbrev S1x1024x1024 : Shape := ⟨3, ![1, 1024, 1024]⟩
abbrev S1x1x1024 : Shape := ⟨3, ![1, 1, 1024]⟩
abbrev S1x1x1x1024 : Shape := ⟨4, ![1, 1, 1, 1024]⟩
abbrev S1x1024x5632 : Shape := ⟨3, ![1, 1024, 5632]⟩
abbrev S1x3x5632 : Shape := ⟨3, ![1, 3, 5632]⟩
abbrev S1x2816x1024 : Shape := ⟨3, ![1, 2816, 1024]⟩
abbrev S512x2816 : Shape := ⟨2, ![512, 2816]⟩
abbrev S16x256 : Shape := ⟨2, ![16, 256]⟩
abbrev S8x256 : Shape := ⟨2, ![8, 256]⟩
abbrev S512x256 : Shape := ⟨2, ![512, 256]⟩
abbrev S528x256 : Shape := ⟨2, ![528, 256]⟩
abbrev S1x256x1024 : Shape := ⟨3, ![1, 256, 1024]⟩
abbrev S256x1024 : Shape := ⟨2, ![256, 1024]⟩
abbrev S528x1024 : Shape := ⟨2, ![528, 1024]⟩
abbrev S16x1024 : Shape := ⟨2, ![16, 1024]⟩
abbrev S8x1024 : Shape := ⟨2, ![8, 1024]⟩
abbrev S512x1024 : Shape := ⟨2, ![512, 1024]⟩
abbrev S1x1024 : Shape := ⟨2, ![1, 1024]⟩
abbrev S528 : Shape := ⟨1, ![528]⟩
abbrev S528x1 : Shape := ⟨2, ![528, 1]⟩
abbrev S1x1024x256 : Shape := ⟨3, ![1, 1024, 256]⟩
abbrev S1024x256 : Shape := ⟨2, ![1024, 256]⟩
abbrev S1x3x256 : Shape := ⟨3, ![1, 3, 256]⟩
abbrev S3x256 : Shape := ⟨2, ![3, 256]⟩
abbrev S1x1x256 : Shape := ⟨3, ![1, 1, 256]⟩
abbrev S1x256 : Shape := ⟨2, ![1, 256]⟩
abbrev S2816x1024 : Shape := ⟨2, ![2816, 1024]⟩
abbrev S512 : Shape := ⟨1, ![512]⟩
abbrev S512x1 : Shape := ⟨2, ![512, 1]⟩

abbrev nBuf : Space → Nat
  | .hbm => 41
  | .vmem => 49
  | .smem => 0
  | _ => 0

abbrev bufTy : (tb : Table) → Fin (tcTables nBuf tb) → BufTy
  | .hbm, ⟨0, _⟩ => ⟨S4x8192x256, .f32⟩
  | .hbm, ⟨1, _⟩ => ⟨S4x8192x256, .f32⟩
  | .hbm, ⟨2, _⟩ => ⟨S4x8192x256, .f32⟩
  | .hbm, ⟨3, _⟩ => ⟨S4x8192x256, .f32⟩
  | .hbm, ⟨4, _⟩ => ⟨S4x8192x1024, .f32⟩
  | .hbm, ⟨5, _⟩ => ⟨S2x4x6144, .f32⟩
  | .hbm, ⟨6, _⟩ => ⟨S2x1024x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024x5632, .f32⟩
  | .hbm, ⟨11, _⟩ => ⟨S2x3x5632, .f32⟩
  | .hbm, ⟨12, _⟩ => ⟨S2x5632, .f32⟩
  | .hbm, ⟨13, _⟩ => ⟨S2x2816x1024, .f32⟩
  | .hbm, ⟨14, _⟩ => ⟨S4x8192x256, .bf16⟩
  | .hbm, ⟨15, _⟩ => ⟨S4x8192x256, .bf16⟩
  | .hbm, ⟨16, _⟩ => ⟨S4x8192x256, .bf16⟩
  | .hbm, ⟨17, _⟩ => ⟨S4x8192x256, .bf16⟩
  | .hbm, ⟨18, _⟩ => ⟨S_, .f32⟩
  | .hbm, ⟨19, _⟩ => ⟨S2x4x6144, .f32⟩
  | .hbm, ⟨20, _⟩ => ⟨S2x8x6144, .f32⟩
  | .hbm, ⟨21, _⟩ => ⟨S2x8x1x6144, .f32⟩
  | .hbm, ⟨22, _⟩ => ⟨S2x1x1024, .f32⟩
  | .hbm, ⟨23, _⟩ => ⟨S2x1x1024, .f32⟩
  | .hbm, ⟨24, _⟩ => ⟨S2x1x1024, .f32⟩
  | .hbm, ⟨25, _⟩ => ⟨S2x1024x1024, .bf16⟩
  | .hbm, ⟨26, _⟩ => ⟨S2x1024x5632, .bf16⟩
  | .hbm, ⟨27, _⟩ => ⟨S2x2816x1024, .bf16⟩
  | .hbm, ⟨28, _⟩ => ⟨S_, .f32⟩
  | .hbm, ⟨29, _⟩ => ⟨S2816, .f32⟩
  | .hbm, ⟨30, _⟩ => ⟨S_, .f32⟩
  | .hbm, ⟨31, _⟩ => ⟨S2816, .f32⟩
  | .hbm, ⟨32, _⟩ => ⟨S5632, .f32⟩
  | .hbm, ⟨33, _⟩ => ⟨S1x1x5632, .f32⟩
  | .hbm, ⟨34, _⟩ => ⟨S2x3x5632, .f32⟩
  | .hbm, ⟨35, _⟩ => ⟨S2x3x5632, .f32⟩
  | .hbm, ⟨36, _⟩ => ⟨S1x5632, .f32⟩
  | .hbm, ⟨37, _⟩ => ⟨S2x5632, .f32⟩
  | .hbm, ⟨38, _⟩ => ⟨S2x5632, .f32⟩
  | .hbm, ⟨39, _⟩ => ⟨S2x1x5632, .f32⟩
  | .hbm, ⟨40, _⟩ => ⟨S4x8192x1024, .f32⟩
  | .local _ .vmem, ⟨0, _⟩ => ⟨S1x16x256, .bf16⟩
  | .local _ .vmem, ⟨1, _⟩ => ⟨S1x16x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x16x256, .bf16⟩
  | .local _ .vmem, ⟨5, _⟩ => ⟨S1x16x256, .bf16⟩
  | .local _ .vmem, ⟨6, _⟩ => ⟨S1x16x256, .bf16⟩
  | .local _ .vmem, ⟨7, _⟩ => ⟨S1x16x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x16x256, .bf16⟩
  | .local _ .vmem, ⟨11, _⟩ => ⟨S1x16x256, .bf16⟩
  | .local _ .vmem, ⟨12, _⟩ => ⟨S1x16x256, .bf16⟩
  | .local _ .vmem, ⟨13, _⟩ => ⟨S1x16x256, .bf16⟩
  | .local _ .vmem, ⟨14, _⟩ => ⟨S1x512x256, .bf16⟩
  | .local _ .vmem, ⟨15, _⟩ => ⟨S1x512x256, .bf16⟩
  | .local _ .vmem, ⟨16, _⟩ => ⟨S1x16x256, .bf16⟩
  | .local _ .vmem, ⟨17, _⟩ => ⟨S1x16x256, .bf16⟩
  | .local _ .vmem, ⟨18, _⟩ => ⟨S1x16x256, .bf16⟩
  | .local _ .vmem, ⟨19, _⟩ => ⟨S1x16x256, .bf16⟩
  | .local _ .vmem, ⟨20, _⟩ => ⟨S1x512x256, .bf16⟩
  | .local _ .vmem, ⟨21, _⟩ => ⟨S1x512x256, .bf16⟩
  | .local _ .vmem, ⟨22, _⟩ => ⟨S1x16x256, .bf16⟩
  | .local _ .vmem, ⟨23, _⟩ => ⟨S1x16x256, .bf16⟩
  | .local _ .vmem, ⟨24, _⟩ => ⟨S1x16x1024, .f32⟩
  | .local _ .vmem, ⟨25, _⟩ => ⟨S1x16x1024, .f32⟩
  | .local _ .vmem, ⟨26, _⟩ => ⟨S1x512x1024, .f32⟩
  | .local _ .vmem, ⟨27, _⟩ => ⟨S1x512x1024, .f32⟩
  | .local _ .vmem, ⟨28, _⟩ => ⟨S1x16x1024, .f32⟩
  | .local _ .vmem, ⟨29, _⟩ => ⟨S1x16x1024, .f32⟩
  | .local _ .vmem, ⟨30, _⟩ => ⟨S1x1024x1024, .bf16⟩
  | .local _ .vmem, ⟨31, _⟩ => ⟨S1x1x1024, .f32⟩
  | .local _ .vmem, ⟨32, _⟩ => ⟨S1x1x1x1024, .f32⟩
  | .local _ .vmem, ⟨33, _⟩ => ⟨S1x1x1x1024, .f32⟩
  | .local _ .vmem, ⟨34, _⟩ => ⟨S1x1x1024, .f32⟩
  | .local _ .vmem, ⟨35, _⟩ => ⟨S1x1x1x1024, .f32⟩
  | .local _ .vmem, ⟨36, _⟩ => ⟨S1x1x1x1024, .f32⟩
  | .local _ .vmem, ⟨37, _⟩ => ⟨S1x1x1x1024, .f32⟩
  | .local _ .vmem, ⟨38, _⟩ => ⟨S1x1x1x1024, .f32⟩
  | .local _ .vmem, ⟨39, _⟩ => ⟨S1x1024x5632, .bf16⟩
  | .local _ .vmem, ⟨40, _⟩ => ⟨S1x3x5632, .f32⟩
  | .local _ .vmem, ⟨41, _⟩ => ⟨S1x1x5632, .f32⟩
  | .local _ .vmem, ⟨42, _⟩ => ⟨S1x2816x1024, .bf16⟩
  | .local _ .vmem, ⟨43, _⟩ => ⟨S1x1x1024, .f32⟩
  | .local _ .vmem, ⟨44, _⟩ => ⟨S1x1x1x1024, .f32⟩
  | .local _ .vmem, ⟨45, _⟩ => ⟨S1x1x1x1024, .f32⟩
  | .local _ .vmem, ⟨46, _⟩ => ⟨S1x512x1024, .f32⟩
  | .local _ .vmem, ⟨47, _⟩ => ⟨S1x512x1024, .f32⟩
  | .local _ .vmem, ⟨48, _⟩ => ⟨S512x2816, .bf16⟩
  | _, _ => ⟨S4x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_0 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg24_0 : Ref sig .tc := ⟨.vmem, 42, rfl⟩
abbrev cc0_stg25_0 : Ref sig .tc := ⟨.vmem, 43, rfl⟩
abbrev cc0_stg26_0 : Ref sig .tc := ⟨.vmem, 44, rfl⟩
abbrev cc0_stg26_1 : Ref sig .tc := ⟨.vmem, 45, rfl⟩
abbrev cc0_stg27_0 : Ref sig .tc := ⟨.vmem, 46, rfl⟩
abbrev cc0_stg27_1 : Ref sig .tc := ⟨.vmem, 47, rfl⟩
abbrev cc0_scratch0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem17_1 : DmaSem sig := 33
abbrev cc0_sem18_0 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem22_0 : DmaSem sig := 40
abbrev cc0_sem23_0 : DmaSem sig := 41
abbrev cc0_sem24_0 : DmaSem sig := 42
abbrev cc0_sem25_0 : DmaSem sig := 43
abbrev cc0_sem26_0 : DmaSem sig := 44
abbrev cc0_sem26_1 : DmaSem sig := 45
abbrev cc0_sem27_0 : DmaSem sig := 46
abbrev cc0_sem27_1 : DmaSem sig := 47

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_9 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_12 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_15 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c2_i32 : BitVec 32 := 2#32
  let c0_i32_0 : BitVec 32 := 0#32
  ![c1_i32.toNat, arg0.toNat, c0_i32.toNat, c2_i32.toNat]

def cc0_transform_18 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c4_i32 : BitVec 32 := 4#32
  let c0_i32_0 : BitVec 32 := 0#32
  ![c1_i32.toNat, arg0.toNat, c0_i32.toNat, c4_i32.toNat]

def cc0_transform_20 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c3_i32 : BitVec 32 := 3#32
  let c0_i32_0 : BitVec 32 := 0#32
  ![c1_i32.toNat, arg0.toNat, c0_i32.toNat, c3_i32.toNat]

def cc0_transform_21 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_23 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_26 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c5_i32 : BitVec 32 := 5#32
  let c0_i32_0 : BitVec 32 := 0#32
  ![c1_i32.toNat, arg0.toNat, c0_i32.toNat, c5_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S1x1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x1x1x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S1x1x1x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]

abbrev stage0_21 : Fin 1 → Memref sig .tc .vmem S1x1024x5632 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1x3x5632 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x1x5632 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S1x2816x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 2 → Memref sig .tc .vmem S1x1x1x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]

abbrev stage0_27 : Fin 2 → Memref sig .tc .vmem S1x512x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]
-- ==== Kernel2Ideal.lean ====
variable {F : FTy → Type} [FloatOps F] [Named F]
def κ : String → Option EReal := fun
  | "sqrt_2_pi_cubic" => some ((80338380498831 / 2251799813685248 : ℝ) : EReal)
  | _ => none
-- ==== Reference2.lean ====
abbrev S4x8192x256 : Shape := ⟨3, ![4, 8192, 256]⟩
abbrev S4x8192x1024 : Shape := ⟨3, ![4, 8192, 1024]⟩
abbrev S2x4x6144 : Shape := ⟨3, ![2, 4, 6144]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S4x8192x5632 : Shape := ⟨3, ![4, 8192, 5632]⟩
abbrev S4x8194x5632 : Shape := ⟨3, ![4, 8194, 5632]⟩
abbrev S1x1x5632 : Shape := ⟨3, ![1, 1, 5632]⟩
abbrev S4x8192x2816 : Shape := ⟨3, ![4, 8192, 2816]⟩

abbrev nBuf : Space → Nat
  | .hbm => 150
  | .vmem => 0
  | .smem => 0
  | _ => 0

abbrev hbmTy0_0 (i : Nat) : BufTy := match i % 128 with
  | 0 => ⟨S4x8192x256, .f32⟩
  | 1 => ⟨S4x8192x256, .f32⟩
  | 2 => ⟨S4x8192x256, .f32⟩
  | 3 => ⟨S4x8192x256, .f32⟩
  | 4 => ⟨S4x8192x1024, .f32⟩
  | 5 => ⟨S2x4x6144, .f32⟩
  | 6 => ⟨S2x1024x1024, .f32⟩
  | 7 => ⟨S2x1024, .f32⟩
  | 8 => ⟨S2x1024, .f32⟩
  | 9 => ⟨S2x1024, .f32⟩
  | 10 => ⟨S2x1024x5632, .f32⟩
  | 11 => ⟨S2x3x5632, .f32⟩
  | 12 => ⟨S2x5632, .f32⟩
  | 13 => ⟨S2x2816x1024, .f32⟩
  | 14 => ⟨S1x4x6144, .f32⟩
  | 15 => ⟨S4x6144, .f32⟩
  | 16 => ⟨S4x1x6144, .f32⟩
  | 17 => ⟨S4x1x1024, .f32⟩
  | 18 => ⟨S4x1x1024, .f32⟩
  | 19 => ⟨S4x1x1024, .f32⟩
  | 20 => ⟨S4x1x1024, .f32⟩
  | 21 => ⟨S4x1x1024, .f32⟩
  | 22 => ⟨S4x1x1024, .f32⟩
  | 23 => ⟨S4x8192x1024, .f32⟩
  | 24 => ⟨S1x1024x1024, .f32⟩
  | 25 => ⟨S1024x1024, .f32⟩
  | 26 => ⟨S4x8192x1024, .f32⟩
  | 27 => ⟨S1x1024, .f32⟩
  | 28 => ⟨S1024, .f32⟩
  | 29 => ⟨S4x8192x1024, .f32⟩
  | 30 => ⟨S_, .f32⟩
  | 31 => ⟨S4x8192, .f32⟩
  | 32 => ⟨S4x8192x1, .f32⟩
  | 33 => ⟨S_, .f32⟩
  | 34 => ⟨S4x8192x1, .f32⟩
  | 35 => ⟨S4x8192x1, .f32⟩
  | 36 => ⟨S_, .f32⟩
  | 37 => ⟨S4x8192x1, .f32⟩
  | 38 => ⟨S4x8192x1, .f32⟩
  | 39 => ⟨S4x8192x1, .f32⟩
  | 40 => ⟨S4x8192x1024, .f32⟩
  | 41 => ⟨S4x8192x1024, .f32⟩
  | 42 => ⟨S1x1x1024, .f32⟩
  | 43 => ⟨S4x8192x1024, .f32⟩
  | 44 => ⟨S4x8192x1024, .f32⟩
  | 45 => ⟨S4x8192x1024, .f32⟩
  | 46 => ⟨S4x8192x1024, .f32⟩
  | 47 => ⟨S4x8192x1024, .f32⟩
  | 48 => ⟨S1x1024, .f32⟩
  | 49 => ⟨S1024, .f32⟩
  | 50 => ⟨S4x8192x1024, .f32⟩
  | 51 => ⟨S_, .f32⟩
  | 52 => ⟨S4x8192, .f32⟩
  | 53 => ⟨S4x8192x1, .f32⟩
  | 54 => ⟨S_, .f32⟩
  | 55 => ⟨S4x8192x1, .f32⟩
  | 56 => ⟨S4x8192x1, .f32⟩
  | 57 => ⟨S_, .f32⟩
  | 58 => ⟨S4x8192x1, .f32⟩
  | 59 => ⟨S4x8192x1, .f32⟩
  | 60 => ⟨S4x8192x1, .f32⟩
  | 61 => ⟨S4x8192x1024, .f32⟩
  | 62 => ⟨S4x8192x1024, .f32⟩
  | 63 => ⟨S1x1x1024, .f32⟩
  | 64 => ⟨S4x8192x1024, .f32⟩
  | 65 => ⟨S4x8192x1024, .f32⟩
  | 66 => ⟨S_, .f32⟩
  | 67 => ⟨S4x1x1024, .f32⟩
  | 68 => ⟨S4x1x1024, .f32⟩
  | 69 => ⟨S4x8192x1024, .f32⟩
  | 70 => ⟨S4x8192x1024, .f32⟩
  | 71 => ⟨S4x8192x1024, .f32⟩
  | 72 => ⟨S4x8192x1024, .f32⟩
  | 73 => ⟨S1x1024x5632, .f32⟩
  | 74 => ⟨S1024x5632, .f32⟩
  | 75 => ⟨S1x3x5632, .f32⟩
  | 76 => ⟨S3x5632, .f32⟩
  | 77 => ⟨S1x5632, .f32⟩
  | 78 => ⟨S5632, .f32⟩
  | 79 => ⟨S1x2816x1024, .f32⟩
  | 80 => ⟨S2816x1024, .f32⟩
  | 81 => ⟨S4x8192x5632, .f32⟩
  | 82 => ⟨S_, .i32⟩
  | 83 => ⟨S_, .f32⟩
  | 84 => ⟨S4x8194x5632, .f32⟩
  | 85 => ⟨S4x8192x5632, .f32⟩
  | 86 => ⟨S1x5632, .f32⟩
  | 87 => ⟨S5632, .f32⟩
  | 88 => ⟨S1x1x5632, .f32⟩
  | 89 => ⟨S4x8192x5632, .f32⟩
  | 90 => ⟨S4x8192x5632, .f32⟩
  | 91 => ⟨S1x1x5632, .f32⟩
  | 92 => ⟨S4x8192x5632, .f32⟩
  | 93 => ⟨S4x8192x5632, .f32⟩
  | 94 => ⟨S4x8192x5632, .f32⟩
  | 95 => ⟨S1x5632, .f32⟩
  | 96 => ⟨S5632, .f32⟩
  | 97 => ⟨S1x1x5632, .f32⟩
  | 98 => ⟨S4x8192x5632, .f32⟩
  | 99 => ⟨S4x8192x5632, .f32⟩
  | 100 => ⟨S4x8192x5632, .f32⟩
  | 101 => ⟨S4x8192x5632, .f32⟩
  | 102 => ⟨S1x5632, .f32⟩
  | 103 => ⟨S5632, .f32⟩
  | 104 => ⟨S1x1x5632, .f32⟩
  | 105 => ⟨S4x8192x5632, .f32⟩
  | 106 => ⟨S4x8192x5632, .f32⟩
  | 107 => ⟨S4x8192x5632, .f32⟩
  | 108 => ⟨S4x8192x2816, .f32⟩
  | 109 => ⟨S4x8192x2816, .f32⟩
  | 110 => ⟨S4x8192x2816, .f32⟩
  | 111 => ⟨S4x8192x2816, .f32⟩
  | 112 => ⟨S_, .f32⟩
  | 113 => ⟨S4x8192x2816, .f32⟩
  | 114 => ⟨S4x8192x2816, .f32⟩
  | 115 => ⟨S4x8192x2816, .f32⟩
  | 116 => ⟨S_, .f32⟩
  | 117 => ⟨S4x8192x2816, .f32⟩
  | 118 => ⟨S4x8192x2816, .f32⟩
  | 119 => ⟨S4x8192x2816, .f32⟩
  | 120 => ⟨S_, .f32⟩
  | 121 => ⟨S4x8192x2816, .f32⟩
  | 122 => ⟨S4x8192x2816, .f32⟩
  | 123 => ⟨S_, .f32⟩
  | 124 => ⟨S4x8192x2816, .f32⟩
  | 125 => ⟨S4x8192x2816, .f32⟩
  | 126 => ⟨S4x8192x2816, .f32⟩
  | 127 => ⟨S4x8192x2816, .f32⟩
  | _ => ⟨S4x8192x256, .f32⟩

abbrev hbmTy0_1 (i : Nat) : BufTy := match i % 128 with
  | 0 => ⟨S4x8192x1024, .f32⟩
  | 1 => ⟨S1x1024, .f32⟩
  | 2 => ⟨S1024, .f32⟩
  | 3 => ⟨S4x8192x1024, .f32⟩
  | 4 => ⟨S_, .f32⟩
  | 5 => ⟨S4x8192, .f32⟩
  | 6 => ⟨S4x8192x1, .f32⟩
  | 7 => ⟨S_, .f32⟩
  | 8 => ⟨S4x8192x1, .f32⟩
  | 9 => ⟨S4x8192x1, .f32⟩
  | 10 => ⟨S_, .f32⟩
  | 11 => ⟨S4x8192x1, .f32⟩
  | 12 => ⟨S4x8192x1, .f32⟩
  | 13 => ⟨S4x8192x1, .f32⟩
  | 14 => ⟨S4x8192x1024, .f32⟩
  | 15 => ⟨S4x8192x1024, .f32⟩
  | 16 => ⟨S1x1x1024, .f32⟩
  | 17 => ⟨S4x8192x1024, .f32⟩
  | 18 => ⟨S4x8192x1024, .f32⟩
  | 19 => ⟨S4x8192x1024, .f32⟩
  | 20 => ⟨S4x8192x1024, .f32⟩
  | 21 => ⟨S4x8192x1024, .f32⟩
  | _ => ⟨S4x8192x256, .f32⟩

abbrev hbmTy (i : Nat) : BufTy := match i / 128 with
  | 0 => hbmTy0_0 i
  | 1 => hbmTy0_1 i
  | _ => ⟨S4x8192x256, .f32⟩

abbrev bufTy : (tb : Table) → Fin (tcTables nBuf tb) → BufTy
  | .hbm, ⟨i, _⟩ => hbmTy i
  | _, _ => ⟨S4x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_2 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_call0_v0 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_6 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_7 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_8 : Ref sig .tc := ⟨.hbm, 120, rfl⟩
abbrev main_v95 : Ref sig .tc := ⟨.hbm, 121, rfl⟩
abbrev main_v96 : Ref sig .tc := ⟨.hbm, 122, rfl⟩
abbrev main_cst_9 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_10 : Ref sig .tc := ⟨.hbm, 132, rfl⟩
abbrev main_v105 : Ref sig .tc := ⟨.hbm, 133, rfl⟩
abbrev main_v106 : Ref sig .tc := ⟨.hbm, 134, rfl⟩
abbrev main_cst_11 : Ref sig .tc := ⟨.hbm, 135, rfl⟩
abbrev main_v107 : Ref sig .tc := ⟨.hbm, 136, rfl⟩
abbrev main_v108 : Ref sig .tc := ⟨.hbm, 137, rfl⟩
abbrev main_cst_12 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩

abbrev nD : Nat := 1
abbrev τ : Topo := Topo.v7x

variable {F : FTy → Type} [FloatOps F]
-- ==== Kernel3.lean ====
abbrev S4x8192x1024 : Shape := ⟨3, ![4, 8192, 1024]⟩
abbrev S2x4x6144 : Shape := ⟨3, ![2, 4, 6144]⟩
abbrev S2x1024 : Shape := ⟨2, ![2, 1024]⟩
abbrev S2x1024x2176 : Shape := ⟨3, ![2, 1024, 2176]⟩
abbrev S2x4x64 : Shape := ⟨3, ![2, 4, 64]⟩
abbrev S2x4x128x128 : Shape := ⟨4, ![2, 4, 128, 128]⟩
abbrev S2x4x128 : Shape := ⟨3, ![2, 4, 128]⟩
abbrev S2x224 : Shape := ⟨2, ![2, 224]⟩
abbrev S2x224x384 : Shape := ⟨3, ![2, 224, 384]⟩
abbrev S2x96 : Shape := ⟨2, ![2, 96]⟩
abbrev S2x96x512 : Shape := ⟨3, ![2, 96, 512]⟩
abbrev S_ : Shape := ⟨0, ![]⟩
abbrev S2x8x6144 : Shape := ⟨3, ![2, 8, 6144]⟩
abbrev S2x8x1x6144 : Shape := ⟨4, ![2, 8, 1, 6144]⟩
abbrev S2x1024x512 : Shape := ⟨3, ![2, 1024, 512]⟩
abbrev S2x1024x1024 : Shape := ⟨3, ![2, 1024, 1024]⟩
abbrev S2x1024x32 : Shape := ⟨3, ![2, 1024, 32]⟩
abbrev S2x1024x256 : Shape := ⟨3, ![2, 1024, 256]⟩
abbrev S2x1024x224 : Shape := ⟨3, ![2, 1024, 224]⟩
abbrev S2x1024x128 : Shape := ⟨3, ![2, 1024, 128]⟩
abbrev S2x1024x96 : Shape := ⟨3, ![2, 1024, 96]⟩
abbrev S2x1024x2304 : Shape := ⟨3, ![2, 1024, 2304]⟩
abbrev S2x1x256 : Shape := ⟨3, ![2, 1, 256]⟩
abbrev S2x512x128 : Shape := ⟨3, ![2, 512, 128]⟩
abbrev S2x128x4 : Shape := ⟨3, ![2, 128, 4]⟩
abbrev S2x128x4x64 : Shape := ⟨4, ![2, 128, 4, 64]⟩
abbrev S2x128x256 : Shape := ⟨3, ![2, 128, 256]⟩
abbrev S4x4 : Shape := ⟨2, ![4, 4]⟩
abbrev S64x64 : Shape := ⟨2, ![64, 64]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S2x256 : Shape := ⟨2, ![2, 256]⟩
abbrev S2x128 : Shape := ⟨2, ![2, 128]⟩
abbrev S2x1x128 : Shape := ⟨3, ![2, 1, 128]⟩
abbrev S2x224x4x96 : Shape := ⟨4, ![2, 224, 4, 96]⟩
abbrev S2x224x4x32 : Shape := ⟨4, ![2, 224, 4, 32]⟩
abbrev S2x224x4x64 : Shape := ⟨4, ![2, 224, 4, 64]⟩
abbrev S2x224x4x128 : Shape := ⟨4, ![2, 224, 4, 128]⟩
abbrev S2x224x4x8 : Shape := ⟨4, ![2, 224, 4, 8]⟩
abbrev S2x96x4x128 : Shape := ⟨4, ![2, 96, 4, 128]⟩
abbrev S2x96x4x64 : Shape := ⟨4, ![2, 96, 4, 64]⟩
abbrev S32x32 : Shape := ⟨2, ![32, 32]⟩
abbrev S32x64 : Shape := ⟨2, ![32, 64]⟩
abbrev S32x128 : Shape := ⟨2, ![32, 128]⟩
abbrev S1x32x1x128 : Shape := ⟨4, ![1, 32, 1, 128]⟩
abbrev S2x32x4x128 : Shape := ⟨4, ![2, 32, 4, 128]⟩
abbrev S2x128x4x128 : Shape := ⟨4, ![2, 128, 4, 128]⟩
abbrev S32x8 : Shape := ⟨2, ![32, 8]⟩
abbrev S4 : Shape := ⟨1, ![4]⟩
abbrev S1x1x4x1 : Shape := ⟨4, ![1, 1, 4, 1]⟩
abbrev S2x224x512 : Shape := ⟨3, ![2, 224, 512]⟩
abbrev S2x256x512 : Shape := ⟨3, ![2, 256, 512]⟩
abbrev S2x128x512 : Shape := ⟨3, ![2, 128, 512]⟩
abbrev S8 : Shape := ⟨1, ![8]⟩
abbrev S128 : Shape := ⟨1, ![128]⟩
abbrev S128x1 : Shape := ⟨2, ![128, 1]⟩
abbrev S1x8 : Shape := ⟨2, ![1, 8]⟩
abbrev S128x8 : Shape := ⟨2, ![128, 8]⟩
abbrev S64 : Shape := ⟨1, ![64]⟩
abbrev S64x1 : Shape := ⟨2, ![64, 1]⟩
abbrev S64x8 : Shape := ⟨2, ![64, 8]⟩
abbrev S128x64x8 : Shape := ⟨3, ![128, 64, 8]⟩
abbrev S8192x8 : Shape := ⟨2, ![8192, 8]⟩
abbrev S1x64x1x8 : Shape := ⟨4, ![1, 64, 1, 8]⟩
abbrev S128x64x1x8 : Shape := ⟨4, ![128, 64, 1, 8]⟩
abbrev S8192x64 : Shape := ⟨2, ![8192, 64]⟩
abbrev S8192x32 : Shape := ⟨2, ![8192, 32]⟩
abbrev S8192x128 : Shape := ⟨2, ![8192, 128]⟩
abbrev S4x8448x512 : Shape := ⟨3, ![4, 8448, 512]⟩
abbrev S32768x1024 : Shape := ⟨2, ![32768, 1024]⟩
abbrev S2x1x1024 : Shape := ⟨3, ![2, 1, 1024]⟩
abbrev S32768x256 : Shape := ⟨2, ![32768, 256]⟩
abbrev S32768x128 : Shape := ⟨2, ![32768, 128]⟩
abbrev S32768x512 : Shape := ⟨2, ![32768, 512]⟩
abbrev S1024x1024 : Shape := ⟨2, ![1024, 1024]⟩
abbrev S1x1x1024 : Shape := ⟨3, ![1, 1, 1024]⟩
abbrev S1x1x1x1024 : Shape := ⟨4, ![1, 1, 1, 1024]⟩
abbrev S1x1024x2304 : Shape := ⟨3, ![1, 1024, 2304]⟩
abbrev S1x1x256 : Shape := ⟨3, ![1, 1, 256]⟩
abbrev S1x512x128 : Shape := ⟨3, ![1, 512, 128]⟩
abbrev S1x128x256 : Shape := ⟨3, ![1, 128, 256]⟩
abbrev S1x1x128 : Shape := ⟨3, ![1, 1, 128]⟩
abbrev S1x256x512 : Shape := ⟨3, ![1, 256, 512]⟩
abbrev S1x128x512 : Shape := ⟨3, ![1, 128, 512]⟩
abbrev S1024x128 : Shape := ⟨2, ![1024, 128]⟩
abbrev S1024x256 : Shape := ⟨2, ![1024, 256]⟩
abbrev S1024x512 : Shape := ⟨2, ![1024, 512]⟩
abbrev S1x1024x512 : Shape := ⟨3, ![1, 1024, 512]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩
abbrev S512x512 : Shape := ⟨2, ![512, 512]⟩
abbrev S1x1024x1024 : Shape := ⟨3, ![1, 1024, 1024]⟩
abbrev S1x1024x256 : Shape := ⟨3, ![1, 1024, 256]⟩
abbrev S512x256 : Shape := ⟨2, ![512, 256]⟩
abbrev S1x1024x128 : Shape := ⟨3, ![1, 1024, 128]⟩
abbrev S512x128 : Shape := ⟨2, ![512, 128]⟩
abbrev S1x1024x384 : Shape := ⟨3, ![1, 1024, 384]⟩
abbrev S1024x384 : Shape := ⟨2, ![1024, 384]⟩
abbrev S512x384 : Shape := ⟨2, ![512, 384]⟩
abbrev S1x256 : Shape := ⟨2, ![1, 256]⟩
abbrev S1x128 : Shape := ⟨2, ![1, 128]⟩
abbrev S256x512 : Shape := ⟨2, ![256, 512]⟩
abbrev S128x512 : Shape := ⟨2, ![128, 512]⟩
abbrev S1x512x512 : Shape := ⟨3, ![1, 512, 512]⟩
abbrev S128x256 : Shape := ⟨2, ![128, 256]⟩

abbrev nBuf : Space → Nat
  | .hbm => 217
  | .vmem => 37
  | .smem => 0
  | _ => 0

abbrev hbmTy0_0 (i : Nat) : BufTy := match i % 128 with
  | 0 => ⟨S4x8192x1024, .f32⟩
  | 1 => ⟨S2x4x6144, .f32⟩
  | 2 => ⟨S2x1024, .f32⟩
  | 3 => ⟨S2x1024x2176, .f32⟩
  | 4 => ⟨S2x4x64, .f32⟩
  | 5 => ⟨S2x4x128x128, .f32⟩
  | 6 => ⟨S2x4x128, .f32⟩
  | 7 => ⟨S2x224, .f32⟩
  | 8 => ⟨S2x224x384, .f32⟩
  | 9 => ⟨S2x96, .f32⟩
  | 10 => ⟨S2x96x512, .f32⟩
  | 11 => ⟨S_, .f32⟩
  | 12 => ⟨S2x4x6144, .f32⟩
  | 13 => ⟨S2x8x6144, .f32⟩
  | 14 => ⟨S2x8x1x6144, .f32⟩
  | 15 => ⟨S2x1024x2176, .bf16⟩
  | 16 => ⟨S2x1024x512, .bf16⟩
  | 17 => ⟨S2x1024x1024, .bf16⟩
  | 18 => ⟨S2x1024x32, .bf16⟩
  | 19 => ⟨S2x1024x256, .bf16⟩
  | 20 => ⟨S2x1024x224, .bf16⟩
  | 21 => ⟨S2x1024x128, .bf16⟩
  | 22 => ⟨S_, .bf16⟩
  | 23 => ⟨S2x1024x32, .bf16⟩
  | 24 => ⟨S_, .bf16⟩
  | 25 => ⟨S2x1024x96, .bf16⟩
  | 26 => ⟨S2x1024x2304, .bf16⟩
  | 27 => ⟨S2x1x256, .f32⟩
  | 28 => ⟨S2x512x128, .f32⟩
  | 29 => ⟨S2x512x128, .bf16⟩
  | 30 => ⟨S2x128x4, .f32⟩
  | 31 => ⟨S2x128x4x64, .f32⟩
  | 32 => ⟨S2x128x256, .f32⟩
  | 33 => ⟨S4x4, .i32⟩
  | 34 => ⟨S4x4, .i32⟩
  | 35 => ⟨S_, .i32⟩
  | 36 => ⟨S4x4, .i32⟩
  | 37 => ⟨S4x4, .i32⟩
  | 38 => ⟨S4x4, .i1⟩
  | 39 => ⟨S4x4, .f32⟩
  | 40 => ⟨S_, .f32⟩
  | 41 => ⟨S64x64, .f32⟩
  | 42 => ⟨S4x1x4x1, .f32⟩
  | 43 => ⟨S1x64x1x64, .f32⟩
  | 44 => ⟨S4x64x4x64, .f32⟩
  | 45 => ⟨S4x64x4x64, .f32⟩
  | 46 => ⟨S4x64x4x64, .f32⟩
  | 47 => ⟨S256x256, .f32⟩
  | 48 => ⟨S256x256, .bf16⟩
  | 49 => ⟨S_, .i32⟩
  | 50 => ⟨S_, .f32⟩
  | 51 => ⟨S2x256, .f32⟩
  | 52 => ⟨S2x1x256, .f32⟩
  | 53 => ⟨S_, .i32⟩
  | 54 => ⟨S_, .f32⟩
  | 55 => ⟨S2x128, .f32⟩
  | 56 => ⟨S2x1x128, .f32⟩
  | 57 => ⟨S2x224x4x96, .f32⟩
  | 58 => ⟨S_, .f32⟩
  | 59 => ⟨S2x224x4x32, .f32⟩
  | 60 => ⟨S_, .f32⟩
  | 61 => ⟨S2x224x4x64, .f32⟩
  | 62 => ⟨S2x224x4x128, .f32⟩
  | 63 => ⟨S2x224x4x32, .f32⟩
  | 64 => ⟨S2x224x4x8, .f32⟩
  | 65 => ⟨S2x224x4x8, .f32⟩
  | 66 => ⟨S2x224x4x8, .f32⟩
  | 67 => ⟨S2x224x4x8, .f32⟩
  | 68 => ⟨S2x224x4x32, .f32⟩
  | 69 => ⟨S2x224x4x128, .f32⟩
  | 70 => ⟨S2x96x4x128, .f32⟩
  | 71 => ⟨S_, .f32⟩
  | 72 => ⟨S2x96x4x64, .f32⟩
  | 73 => ⟨S2x96x4x64, .f32⟩
  | 74 => ⟨S2x96x4x128, .f32⟩
  | 75 => ⟨S32x32, .i32⟩
  | 76 => ⟨S32x32, .i32⟩
  | 77 => ⟨S_, .i32⟩
  | 78 => ⟨S32x32, .i32⟩
  | 79 => ⟨S32x32, .i32⟩
  | 80 => ⟨S32x32, .i1⟩
  | 81 => ⟨S32x32, .f32⟩
  | 82 => ⟨S_, .f32⟩
  | 83 => ⟨S32x64, .f32⟩
  | 84 => ⟨S_, .f32⟩
  | 85 => ⟨S32x32, .f32⟩
  | 86 => ⟨S32x128, .f32⟩
  | 87 => ⟨S1x32x1x128, .f32⟩
  | 88 => ⟨S2x32x4x128, .f32⟩
  | 89 => ⟨S2x128x4x128, .f32⟩
  | 90 => ⟨S_, .f32⟩
  | 91 => ⟨S2x96x4x128, .f32⟩
  | 92 => ⟨S32x8, .f32⟩
  | 93 => ⟨S32x8, .f32⟩
  | 94 => ⟨S32x8, .f32⟩
  | 95 => ⟨S32x8, .f32⟩
  | 96 => ⟨S32x32, .f32⟩
  | 97 => ⟨S_, .f32⟩
  | 98 => ⟨S32x64, .f32⟩
  | 99 => ⟨S_, .f32⟩
  | 100 => ⟨S32x32, .f32⟩
  | 101 => ⟨S32x128, .f32⟩
  | 102 => ⟨S1x32x1x128, .f32⟩
  | 103 => ⟨S2x32x4x128, .f32⟩
  | 104 => ⟨S2x128x4x128, .f32⟩
  | 105 => ⟨S_, .f32⟩
  | 106 => ⟨S2x96x4x64, .f32⟩
  | 107 => ⟨S4, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S4, .i32⟩
  | 115 => ⟨S4, .i32⟩
  | 116 => ⟨S_, .i32⟩
  | 117 => ⟨S4, .i32⟩
  | 118 => ⟨S4, .i1⟩
  | 119 => ⟨S_, .i32⟩
  | 120 => ⟨S4, .i32⟩
  | 121 => ⟨S4, .i1⟩
  | 122 => ⟨S_, .i32⟩
  | 123 => ⟨S_, .i1⟩
  | 124 => ⟨S4, .i1⟩
  | 125 => ⟨S4, .i1⟩
  | 126 => ⟨S4, .i1⟩
  | 127 => ⟨S4, .i32⟩
  | _ => ⟨S4x8192x1024, .f32⟩

abbrev hbmTy0_1 (i : Nat) : BufTy := match i % 128 with
  | 0 => ⟨S4, .i32⟩
  | 1 => ⟨S4, .i32⟩
  | 2 => ⟨S_, .i32⟩
  | 3 => ⟨S4, .i32⟩
  | 4 => ⟨S4, .i1⟩
  | 5 => ⟨S1x1x4x1, .i1⟩
  | 6 => ⟨S2x96x4x64, .f32⟩
  | 7 => ⟨S2x96x4x128, .f32⟩
  | 8 => ⟨S2x96x4x64, .f32⟩
  | 9 => ⟨S2x96x4x128, .f32⟩
  | 10 => ⟨S2x96x4x128, .i1⟩
  | 11 => ⟨S2x96x4x128, .f32⟩
  | 12 => ⟨S_, .f32⟩
  | 13 => ⟨S2x32x4x128, .f32⟩
  | 14 => ⟨S2x128x4x128, .f32⟩
  | 15 => ⟨S2x224x512, .f32⟩
  | 16 => ⟨S_, .i32⟩
  | 17 => ⟨S_, .f32⟩
  | 18 => ⟨S2x256x512, .f32⟩
  | 19 => ⟨S2x256x512, .bf16⟩
  | 20 => ⟨S2x224x512, .f32⟩
  | 21 => ⟨S_, .i32⟩
  | 22 => ⟨S_, .f32⟩
  | 23 => ⟨S2x256x512, .f32⟩
  | 24 => ⟨S2x256x512, .bf16⟩
  | 25 => ⟨S2x128x512, .f32⟩
  | 26 => ⟨S2x128x512, .bf16⟩
  | 27 => ⟨S2x128x512, .f32⟩
  | 28 => ⟨S2x128x512, .bf16⟩
  | 29 => ⟨S2x128x512, .f32⟩
  | 30 => ⟨S2x128x512, .bf16⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S128, .f32⟩
  | 40 => ⟨S128x1, .f32⟩
  | 41 => ⟨S1x8, .f32⟩
  | 42 => ⟨S128x8, .f32⟩
  | 43 => ⟨S128x8, .f32⟩
  | 44 => ⟨S128x8, .f32⟩
  | 45 => ⟨S64, .f32⟩
  | 46 => ⟨S64x1, .f32⟩
  | 47 => ⟨S1x8, .f32⟩
  | 48 => ⟨S64x8, .f32⟩
  | 49 => ⟨S64x8, .f32⟩
  | 50 => ⟨S64x8, .f32⟩
  | 51 => ⟨S128x8, .f32⟩
  | 52 => ⟨S128x64x8, .f32⟩
  | 53 => ⟨S8192x8, .f32⟩
  | 54 => ⟨S128x8, .f32⟩
  | 55 => ⟨S128x64x8, .f32⟩
  | 56 => ⟨S8192x8, .f32⟩
  | 57 => ⟨S64x8, .f32⟩
  | 58 => ⟨S1x64x1x8, .f32⟩
  | 59 => ⟨S128x64x1x8, .f32⟩
  | 60 => ⟨S8192x8, .f32⟩
  | 61 => ⟨S64x8, .f32⟩
  | 62 => ⟨S1x64x1x8, .f32⟩
  | 63 => ⟨S128x64x1x8, .f32⟩
  | 64 => ⟨S8192x8, .f32⟩
  | 65 => ⟨S_, .f32⟩
  | 66 => ⟨S8192x64, .f32⟩
  | 67 => ⟨S_, .f32⟩
  | 68 => ⟨S8192x32, .f32⟩
  | 69 => ⟨S8192x128, .f32⟩
  | 70 => ⟨S_, .f32⟩
  | 71 => ⟨S8192x64, .f32⟩
  | 72 => ⟨S8192x64, .f32⟩
  | 73 => ⟨S8192x8, .f32⟩
  | 74 => ⟨S8192x8, .f32⟩
  | 75 => ⟨S8192x128, .f32⟩
  | 76 => ⟨S_, .bf16⟩
  | 77 => ⟨S4x8448x512, .bf16⟩
  | 78 => ⟨S_, .bf16⟩
  | 79 => ⟨S4x8448x512, .bf16⟩
  | 80 => ⟨S32768x1024, .f32⟩
  | 81 => ⟨S2x1x1024, .f32⟩
  | 82 => ⟨S32768x256, .bf16⟩
  | 83 => ⟨S32768x1024, .bf16⟩
  | 84 => ⟨S32768x256, .bf16⟩
  | 85 => ⟨S32768x128, .bf16⟩
  | 86 => ⟨S32768x512, .bf16⟩
  | 87 => ⟨S4x8448x512, .bf16⟩
  | 88 => ⟨S4x8448x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1024x2304, .bf16⟩
  | .local _ .vmem, ⟨8, _⟩ => ⟨S1x1x256, .f32⟩
  | .local _ .vmem, ⟨9, _⟩ => ⟨S1x512x128, .bf16⟩
  | .local _ .vmem, ⟨10, _⟩ => ⟨S1x128x256, .f32⟩
  | .local _ .vmem, ⟨11, _⟩ => ⟨S256x256, .bf16⟩
  | .local _ .vmem, ⟨12, _⟩ => ⟨S1x1x256, .f32⟩
  | .local _ .vmem, ⟨13, _⟩ => ⟨S1x1x128, .f32⟩
  | .local _ .vmem, ⟨14, _⟩ => ⟨S1x256x512, .bf16⟩
  | .local _ .vmem, ⟨15, _⟩ => ⟨S1x256x512, .bf16⟩
  | .local _ .vmem, ⟨16, _⟩ => ⟨S1x128x512, .bf16⟩
  | .local _ .vmem, ⟨17, _⟩ => ⟨S1x128x512, .bf16⟩
  | .local _ .vmem, ⟨18, _⟩ => ⟨S1x128x512, .bf16⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1024x128, .f32⟩
  | .local _ .vmem, ⟨23, _⟩ => ⟨S1024x256, .bf16⟩
  | .local _ .vmem, ⟨24, _⟩ => ⟨S1024x256, .bf16⟩
  | .local _ .vmem, ⟨25, _⟩ => ⟨S1024x1024, .bf16⟩
  | .local _ .vmem, ⟨26, _⟩ => ⟨S1024x1024, .bf16⟩
  | .local _ .vmem, ⟨27, _⟩ => ⟨S1024x256, .bf16⟩
  | .local _ .vmem, ⟨28, _⟩ => ⟨S1024x256, .bf16⟩
  | .local _ .vmem, ⟨29, _⟩ => ⟨S1024x128, .bf16⟩
  | .local _ .vmem, ⟨30, _⟩ => ⟨S1024x128, .bf16⟩
  | .local _ .vmem, ⟨31, _⟩ => ⟨S1024x512, .bf16⟩
  | .local _ .vmem, ⟨32, _⟩ => ⟨S1024x512, .bf16⟩
  | .local _ .vmem, ⟨33, _⟩ => ⟨S1x1024x512, .bf16⟩
  | .local _ .vmem, ⟨34, _⟩ => ⟨S1x1024x512, .bf16⟩
  | .local _ .vmem, ⟨35, _⟩ => ⟨S1x1024x512, .bf16⟩
  | .local _ .vmem, ⟨36, _⟩ => ⟨S1x1024x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v26 : Ref sig .tc := ⟨.hbm, 47, rfl⟩
abbrev main_v27 : Ref sig .tc := ⟨.hbm, 48, rfl⟩
abbrev main_c_3 : Ref sig .tc := ⟨.hbm, 49, rfl⟩
abbrev main_call1_v0 : Ref sig .tc := ⟨.hbm, 50, rfl⟩
abbrev main_v28 : Ref sig .tc := ⟨.hbm, 51, rfl⟩
abbrev main_v29 : Ref sig .tc := ⟨.hbm, 52, rfl⟩
abbrev main_c_4 : Ref sig .tc := ⟨.hbm, 53, rfl⟩
abbrev main_call2_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_cst_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_c_8 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_cst_13 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_14 : Ref sig .tc := ⟨.hbm, 105, rfl⟩
abbrev main_v71 : Ref sig .tc := ⟨.hbm, 106, rfl⟩
abbrev main_v72 : Ref sig .tc := ⟨.hbm, 107, rfl⟩
abbrev main_c_15 : Ref sig .tc := ⟨.hbm, 108, rfl⟩
abbrev main_call3_v0 : Ref sig .tc := ⟨.hbm, 109, rfl⟩
abbrev main_call3_c : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_c_1 : Ref sig .tc := ⟨.hbm, 116, rfl⟩
abbrev main_call3_v5 : Ref sig .tc := ⟨.hbm, 117, rfl⟩
abbrev main_call3_v6 : Ref sig .tc := ⟨.hbm, 118, rfl⟩
abbrev main_call3_c_2 : Ref sig .tc := ⟨.hbm, 119, rfl⟩
abbrev main_call3_v7 : Ref sig .tc := ⟨.hbm, 120, rfl⟩
abbrev main_call3_v8 : Ref sig .tc := ⟨.hbm, 121, rfl⟩
abbrev main_call3_c_3 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_v73 : Ref sig .tc := ⟨.hbm, 129, rfl⟩
abbrev main_c_16 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_call4_v0 : Ref sig .tc := ⟨.hbm, 138, rfl⟩
abbrev main_v81 : Ref sig .tc := ⟨.hbm, 139, rfl⟩
abbrev main_cst_17 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_c_18 : Ref sig .tc := ⟨.hbm, 144, rfl⟩
abbrev main_call5_v0 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_c_19 : Ref sig .tc := ⟨.hbm, 149, rfl⟩
abbrev main_call6_v0 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_v96 : Ref sig .tc := ⟨.hbm, 159, rfl⟩
abbrev main_v97 : Ref sig .tc := ⟨.hbm, 160, rfl⟩
abbrev main_cst_20 : Ref sig .tc := ⟨.hbm, 161, rfl⟩
abbrev main_v98 : Ref sig .tc := ⟨.hbm, 162, rfl⟩
abbrev main_v99 : Ref sig .tc := ⟨.hbm, 163, rfl⟩
abbrev main_cst_21 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_cst_22 : Ref sig .tc := ⟨.hbm, 193, rfl⟩
abbrev main_v128 : Ref sig .tc := ⟨.hbm, 194, rfl⟩
abbrev main_cst_23 : Ref sig .tc := ⟨.hbm, 195, rfl⟩
abbrev main_v129 : Ref sig .tc := ⟨.hbm, 196, rfl⟩
abbrev main_v130 : Ref sig .tc := ⟨.hbm, 197, rfl⟩
abbrev main_cst_24 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_cst_25 : Ref sig .tc := ⟨.hbm, 204, rfl⟩
abbrev main_v136 : Ref sig .tc := ⟨.hbm, 205, rfl⟩
abbrev main_cst_26 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140_0 : Ref sig .tc := ⟨.hbm, 210, rfl⟩
abbrev main_v140_1 : Ref sig .tc := ⟨.hbm, 211, rfl⟩
abbrev main_v140_2 : Ref sig .tc := ⟨.hbm, 212, rfl⟩
abbrev main_v140_3 : Ref sig .tc := ⟨.hbm, 213, rfl⟩
abbrev main_v140_4 : Ref sig .tc := ⟨.hbm, 214, rfl⟩
abbrev main_v140_5 : Ref sig .tc := ⟨.hbm, 215, rfl⟩
abbrev main_v140_6 : Ref sig .tc := ⟨.hbm, 216, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_stg22_0 : Ref sig .tc := ⟨.vmem, 31, rfl⟩
abbrev cc0_stg22_1 : Ref sig .tc := ⟨.vmem, 32, rfl⟩
abbrev cc0_stg23_0 : Ref sig .tc := ⟨.vmem, 33, rfl⟩
abbrev cc0_stg23_1 : Ref sig .tc := ⟨.vmem, 34, rfl⟩
abbrev cc0_stg24_0 : Ref sig .tc := ⟨.vmem, 35, rfl⟩
abbrev cc0_stg24_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30
abbrev cc0_sem22_0 : DmaSem sig := 31
abbrev cc0_sem22_1 : DmaSem sig := 32
abbrev cc0_sem23_0 : DmaSem sig := 33
abbrev cc0_sem23_1 : DmaSem sig := 34
abbrev cc0_sem24_0 : DmaSem sig := 35
abbrev cc0_sem24_1 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c1_i32_6 : BitVec 32 := 1#32
  let c0_i32_7 : BitVec 32 := 0#32
  ![c1_i32_4.toNat, v16.toNat, c0_i32_5.toNat, c1_i32_6.toNat]

def cc0_transform_3 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_16 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_17 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  let c0_i32_12 : BitVec 32 := 0#32
  ![v16.toNat, v27.toNat, c0_i32_11.toNat]

def cc0_transform_26 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.addi c0_i32_10 v26
  let c0_i32_11 : BitVec 32 := 0#32
  let c0_i32_12 : BitVec 32 := 0#32
  ![v16.toNat, v27.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x2304 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1024x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1024x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1024x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]
-- ==== Reference3.lean ====
abbrev S4x8192x1024 : Shape := ⟨3, ![4, 8192, 1024]⟩
abbrev S2x4x6144 : Shape := ⟨3, ![2, 4, 6144]⟩
abbrev S2x1024 : Shape := ⟨2, ![2, 1024]⟩
abbrev S2x1024x2176 : Shape := ⟨3, ![2, 1024, 2176]⟩
abbrev S2x4x64 : Shape := ⟨3, ![2, 4, 64]⟩
abbrev S2x4x128x128 : Shape := ⟨4, ![2, 4, 128, 128]⟩
abbrev S2x4x128 : Shape := ⟨3, ![2, 4, 128]⟩
abbrev S2x224 : Shape := ⟨2, ![2, 224]⟩
abbrev S2x224x384 : Shape := ⟨3, ![2, 224, 384]⟩
abbrev S2x96 : Shape := ⟨2, ![2, 96]⟩
abbrev S2x96x512 : Shape := ⟨3, ![2, 96, 512]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S1x1024 : Shape := ⟨2, ![1, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1x1024x2176 : Shape := ⟨3, ![1, 1024, 2176]⟩
abbrev S1024x2176 : Shape := ⟨2, ![1024, 2176]⟩
abbrev S4x8192x2176 : Shape := ⟨3, ![4, 8192, 2176]⟩
abbrev S4x8192x512 : Shape := ⟨3, ![4, 8192, 512]⟩
abbrev S4x8192x1056 : Shape := ⟨3, ![4, 8192, 1056]⟩
abbrev S4x8192x256 : Shape := ⟨3, ![4, 8192, 256]⟩
abbrev S4x8192x352 : Shape := ⟨3, ![4, 8192, 352]⟩
abbrev S4x8192x32 : Shape := ⟨3, ![4, 8192, 32]⟩
abbrev S32768x1024 : Shape := ⟨2, ![32768, 1024]⟩
abbrev S32768x256 : Shape := ⟨2, ![32768, 256]⟩
abbrev S4x8192x128 : Shape := ⟨3, ![4, 8192, 128]⟩
abbrev S32768x128 : Shape := ⟨2, ![32768, 128]⟩

abbrev nBuf : Space → Nat
  | .hbm => 63
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S2x4x6144, .f32⟩
  | .hbm, ⟨2, _⟩ => ⟨S2x1024, .f32⟩
  | .hbm, ⟨3, _⟩ => ⟨S2x1024x2176, .f32⟩
  | .hbm, ⟨4, _⟩ => ⟨S2x4x64, .f32⟩
  | .hbm, ⟨5, _⟩ => ⟨S2x4x128x128, .f32⟩
  | .hbm, ⟨6, _⟩ => ⟨S2x4x128, .f32⟩
  | .hbm, ⟨7, _⟩ => ⟨S2x224, .f32⟩
  | .hbm, ⟨8, _⟩ => ⟨S2x224x384, .f32⟩
  | .hbm, ⟨9, _⟩ => ⟨S2x96, .f32⟩
  | .hbm, ⟨10, _⟩ => ⟨S2x96x512, .f32⟩
  | .hbm, ⟨11, _⟩ => ⟨S1x4x6144, .f32⟩
  | .hbm, ⟨12, _⟩ => ⟨S4x6144, .f32⟩
  | .hbm, ⟨13, _⟩ => ⟨S4x1x6144, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x1x1024, .f32⟩
  | .hbm, ⟨20, _⟩ => ⟨S1x1024, .f32⟩
  | .hbm, ⟨21, _⟩ => ⟨S1024, .f32⟩
  | .hbm, ⟨22, _⟩ => ⟨S4x8192x1024, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S4x8192x1, .f32⟩
  | .hbm, ⟨33, _⟩ => ⟨S4x8192x1024, .f32⟩
  | .hbm, ⟨34, _⟩ => ⟨S4x8192x1024, .f32⟩
  | .hbm, ⟨35, _⟩ => ⟨S1x1x1024, .f32⟩
  | .hbm, ⟨36, _⟩ => ⟨S4x8192x1024, .f32⟩
  | .hbm, ⟨37, _⟩ => ⟨S4x8192x1024, .f32⟩
  | .hbm, ⟨38, _⟩ => ⟨S_, .f32⟩
  | .hbm, ⟨39, _⟩ => ⟨S4x1x1024, .f32⟩
  | .hbm, ⟨40, _⟩ => ⟨S4x1x1024, .f32⟩
  | .hbm, ⟨41, _⟩ => ⟨S4x8192x1024, .f32⟩
  | .hbm, ⟨42, _⟩ => ⟨S4x8192x1024, .f32⟩
  | .hbm, ⟨43, _⟩ => ⟨S4x8192x1024, .f32⟩
  | .hbm, ⟨44, _⟩ => ⟨S4x8192x1024, .f32⟩
  | .hbm, ⟨45, _⟩ => ⟨S1x1024x2176, .f32⟩
  | .hbm, ⟨46, _⟩ => ⟨S1024x2176, .f32⟩
  | .hbm, ⟨47, _⟩ => ⟨S4x8192x2176, .f32⟩
  | .hbm, ⟨48, _⟩ => ⟨S4x8192x512, .f32⟩
  | .hbm, ⟨49, _⟩ => ⟨S4x8192x1056, .f32⟩
  | .hbm, ⟨50, _⟩ => ⟨S4x8192x256, .f32⟩
  | .hbm, ⟨51, _⟩ => ⟨S4x8192x352, .f32⟩
  | .hbm, ⟨52, _⟩ => ⟨S4x8192x1024, .f32⟩
  | .hbm, ⟨53, _⟩ => ⟨S4x8192x32, .f32⟩
  | .hbm, ⟨54, _⟩ => ⟨S32768x1024, .f32⟩
  | .hbm, ⟨55, _⟩ => ⟨S32768x1024, .bf16⟩
  | .hbm, ⟨56, _⟩ => ⟨S32768x256, .f32⟩
  | .hbm, ⟨57, _⟩ => ⟨S32768x256, .bf16⟩
  | .hbm, ⟨58, _⟩ => ⟨S_, .i32⟩
  | .hbm, ⟨59, _⟩ => ⟨S_, .f32⟩
  | .hbm, ⟨60, _⟩ => ⟨S4x8192x128, .f32⟩
  | .hbm, ⟨61, _⟩ => ⟨S32768x128, .f32⟩
  | .hbm, ⟨62, _⟩ => ⟨S32768x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Kernel4.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4.lean ====
abbrev S4x1024 : Shape := ⟨2, ![4, 1024]⟩
abbrev S1024 : Shape := ⟨1, ![1024]⟩
abbrev S2x1024x6144 : Shape := ⟨3, ![2, 1024, 6144]⟩
abbrev S2x6144 : Shape := ⟨2, ![2, 6144]⟩
abbrev S1x1024 : Shape := ⟨2, ![1, 1024]⟩
abbrev S_ : Shape := ⟨0, ![]⟩
abbrev S3x1024 : Shape := ⟨2, ![3, 1024]⟩
abbrev S8x1024 : Shape := ⟨2, ![8, 1024]⟩
abbrev S8x2x6144 : Shape := ⟨3, ![8, 2, 6144]⟩
abbrev S2x8x6144 : Shape := ⟨3, ![2, 8, 6144]⟩
abbrev S2x1x6144 : Shape := ⟨3, ![2, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024, .f32⟩
  | .hbm, ⟨2, _⟩ => ⟨S2x1024x6144, .f32⟩
  | .hbm, ⟨3, _⟩ => ⟨S2x6144, .f32⟩
  | .hbm, ⟨4, _⟩ => ⟨S1x1024, .f32⟩
  | .hbm, ⟨5, _⟩ => ⟨S_, .f32⟩
  | .hbm, ⟨6, _⟩ => ⟨S3x1024, .f32⟩
  | .hbm, ⟨7, _⟩ => ⟨S8x1024, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x2x6144, .f32⟩
  | .hbm, ⟨18, _⟩ => ⟨S2x8x6144, .f32⟩
  | .hbm, ⟨19, _⟩ => ⟨S2x1x6144, .f32⟩
  | .hbm, ⟨20, _⟩ => ⟨S2x8x6144, .f32⟩
  | .hbm, ⟨21, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.AttnOut.lean ====
module

public import proofs.«01_k».proof.Proof.Gen.KernelIdeal.Skeleton
public import Idealize.ShloMosaic.Lib.Pipeline.ValueKit
public import Idealize.ShloMosaic.Lib.Pointwise
public import Idealize.ShloMosaic.Lib.WordCmp

@[expose] public section

set_option maxRecDepth 16384

noncomputable section

namespace Cert.Attn

open Idealize.ShloMosaic Cert.KernelIdeal Cert.KernelIdeal.Gen

/-- The output's store: lanes 0–63 of each 128 from the even head, 64–127 from the odd one, each over its row's sum. -/
theorem storeO (A L : Fin 4 → FVec Ideal S1x512x128 .f32) (r : Fin 512) (d : Fin 256) (h : Fin 4) (e : Fin 128)
    (hh : h.val = 2 * (d.val / 128) + d.val % 128 / 64) (he : e.val = d.val % 128) :
    k0_pay4 (F := Ideal) k0_pay5 (k0_pay6 (A 0) (L 0) (A 1) (L 1)) (k0_pay7 (A 2) (L 2)) (A 3) (L 3) (ix3 0 r d)
      = A h (ix3 0 r e) * Ideal.div 1 (∑ x : Fin 128, L h (ix3 0 r x)) := by
  have hsel : ∀ (n : ℕ) (hn : n < 128) (u v : EReal),
      Scalar.select (IntOp.cmpi CmpIPredicate.slt (BitVec.ofNat 32 n) 64#32) u v = if n < 64 then u else v := by
    intro n hn u v
    rw [show (64#32 : BitVec 32) = BitVec.ofNat 32 64 from rfl, WordCmp.cmpi_slt_ofNat (by omega) (by omega), WordCmp.select_ofBool]
    simp only [decide_eq_true_eq]
  have hd : d.val < 256 := d.isLt
  pointwise [k0_pay4, k0_pay5, k0_pay6, k0_pay7]
  split
  · rename_i hlt
    rw [hsel _ (by omega)]
    have hm : (⟨d.val, hlt⟩ : Fin 128) = e := Fin.ext (by rw [he]; show d.val = _; omega)
    split
    · obtain rfl : h = 0 := Fin.ext (by simp only [Fin.val_zero]; omega)
      simp only [hm]
    · obtain rfl : h = 1 := Fin.ext (by simp only [Fin.val_one]; omega)
      simp only [hm]
  · rename_i hge
    rw [hsel _ (by omega)]
    have hm : (⟨d.val - 128, by omega⟩ : Fin 128) = e := Fin.ext (by rw [he]; show d.val - 128 = _; omega)
    split
    · obtain rfl : h = 2 := Fin.ext (by simp only [Fin.val_two]; omega)
      simp only [hm]
    · obtain rfl : h = 3 := Fin.ext (by show _ = 3; omega)
      simp only [hm]

end Cert.Attn
end
-- ==== Proof.AttnPay.lean ====
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.Attn

open Idealize.ShloMosaic Cert.KernelIdeal Cert.KernelIdeal.Gen

/-- A query row against a key row of one head's 128 lanes. -/
def score (Q : FVec Ideal S1x512x128 .bf16) (K : FVec Ideal S1x2816x128 .bf16) (r : Fin 512) (k : Fin 2816) : EReal :=
  ∑ d : Fin 128, Q (ix3 0 r d) * K (ix3 0 k d)

/-- One head's running maximum after a block of keys. -/
def headM (Q : FVec Ideal S1x512x128 .bf16) (K : FVec Ideal S1x2816x128 .bf16) (M : FVec Ideal S1x512x128 .f32)
    (r : Fin 512) (d : Fin 128) : EReal :=
  max (M (ix3 0 r d)) (Finset.univ.fold max ⊥ (score Q K r))

/-- The weight of a key of the block, relative to the running maximum. -/
def headP (Q : FVec Ideal S1x512x128 .bf16) (K : FVec Ideal S1x2816x128 .bf16) (M : FVec Ideal S1x512x128 .f32)
    (r : Fin 512) (k : Fin 2816) : EReal :=
  Ideal.exp2 (score Q K r k - headM Q K M r 0)

/-- One head's lane sums of the weights after a block of keys: lane `d` adds the keys `c * 128 + d`. -/
def headL (Q : FVec Ideal S1x512x128 .bf16) (K : FVec Ideal S1x2816x128 .bf16) (M L : FVec Ideal S1x512x128 .f32)
    (r : Fin 512) (d : Fin 128) : EReal :=
  Ideal.exp2 (M (ix3 0 r d) - headM Q K M r d) * L (ix3 0 r d)
    + ∑ c : Fin 22, headP Q K M r ⟨c.val * 128 + d.val, by omega⟩

/-- One head's weighted values after a block of keys. -/
def headA (Q : FVec Ideal S1x512x128 .bf16) (K : FVec Ideal S1x2816x128 .bf16) (M A : FVec Ideal S1x512x128 .f32)
    (V : FVec Ideal S1x2816x128 .bf16) (r : Fin 512) (d : Fin 128) : EReal :=
  Ideal.exp2 (M (ix3 0 r d) - headM Q K M r d) * A (ix3 0 r d) + ∑ k : Fin 2816, headP Q K M r k * V (ix3 0 k d)

section
variable (Q : FVec Ideal S1x512x128 .bf16) (K : FVec Ideal S1x2816x128 .bf16) (M L A : FVec Ideal S1x512x128 .f32)
    (V : FVec Ideal S1x2816x128 .bf16) (r : Fin 512)

/-- The score matrix of a head, entry by entry. -/
theorem pay12_apply (k : Fin 2816) : k0_pay12 (F := Ideal) Q K (ix2 r k) = score Q K r k := by
  pointwise [k0_pay12, score]

theorem neg_inf : Ideal.ofBits FTy.f32 4286578688#32 = ⊥ := by
  simp [Ideal.ofBits, Ideal.ieee]

theorem pay25_apply (d : Fin 128) : k0_pay25 (F := Ideal) (k0_pay12 (F := Ideal) Q K) M (ix2 r d) = headM Q K M r d := by
  pointwise [k0_pay25, k0_pay24]
  rw [headM, neg_inf, show (fun x => k0_pay12 (F := Ideal) Q K (ix2 r x)) = score Q K r from
    funext fun k => pay12_apply Q K r k]

theorem pay26_apply (d : Fin 128) : k0_pay26 (F := Ideal) (k0_pay12 (F := Ideal) Q K) M (ix2 r d)
    = Ideal.exp2 (M (ix3 0 r d) - headM Q K M r d) := by
  rw [← pay25_apply]
  pointwise [k0_pay26, k0_pay24]
  rfl

theorem pay27_apply (k : Fin 2816) : k0_pay27 (F := Ideal) (k0_pay12 (F := Ideal) Q K) M (ix2 r k) = headP Q K M r k := by
  rw [headP, ← pay25_apply, ← pay12_apply]
  pointwise [k0_pay27]
  rfl

/-- The store of a head's running maximum. -/
theorem storeM (d : Fin 128) :
    k0_pay32 (F := Ideal) (k0_pay25 (k0_pay12 Q K) M) (ix3 0 r d) = headM Q K M r d := by
  rw [← pay25_apply]
  pointwise [k0_pay32]

/-- The store of a head's lane sums. -/
theorem storeL (d : Fin 128) :
    k0_pay29 (F := Ideal) (k0_pay26 (k0_pay12 Q K) M) (k0_pay27 (k0_pay12 Q K) M) (k0_pay28 (k0_pay12 Q K) M) L (ix3 0 r d)
      = headL Q K M L r d := by
  have h := pay27_apply Q K M r
  rw [headL, ← pay26_apply]
  generalize k0_pay26 (F := Ideal) (k0_pay12 Q K) M = a at *
  pointwise [k0_pay29, k0_pay28]
  simp only [h, Fin.sum_univ_castSucc, Finset.univ_eq_empty, Finset.sum_empty, zero_add, Fin.val_castSucc, Fin.val_last,
    Nat.reduceMul, Nat.zero_mul, Nat.one_mul, Nat.zero_add]

/-- The store of a head's weighted values. -/
theorem storeA (d : Fin 128) :
    k0_pay31 (F := Ideal) (k0_pay30 (k0_pay26 (k0_pay12 Q K) M) (k0_pay27 (k0_pay12 Q K) M) A V) (ix3 0 r d)
      = headA Q K M A V r d := by
  have h := pay27_apply Q K M r
  rw [headA, ← pay26_apply]
  generalize k0_pay26 (F := Ideal) (k0_pay12 Q K) M = a at *
  pointwise [k0_pay31, k0_pay30]
  simp only [h]

end

end Cert.Attn
end
-- ==== Proof.AttnStep.lean ====
module

public import proofs.«01_k».proof.Proof.Gen.KernelIdeal.Value
public import proofs.«01_k».proof.Proof.AttnPay
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Attn

open Idealize.ShloMosaic Idealize.ShloMosaic.TcCoe Idealize.SL.Sem Cert.KernelIdeal Cert.KernelIdeal.Gen Cert.KernelIdeal.Value
open Idealize.ShloMosaic.Pipeline (Dat)

variable (m : (ℓ : Loc nD τ sig) → Buf (Elt Ideal) ℓ)

/-- Lanes `o … o + 127` of a block of queries. -/
def qv (X : FVec Ideal S1x512x512 .bf16) (o : ℕ) (ho : o + 128 ≤ 512) : FVec Ideal S1x512x128 .bf16 :=
  fun i => X (ix3 0 (i 1) ⟨o + (i 2).val, by have h : (i 2).val < 128 := (i 2).isLt; omega⟩)

/-- Lanes `o … o + 127` of a block of keys or values. -/
def kv (X : FVec Ideal S1x2816x512 .bf16) (o : ℕ) (ho : o + 128 ≤ 512) : FVec Ideal S1x2816x128 .bf16 :=
  fun i => X (ix3 0 (i 1) ⟨o + (i 2).val, by have h : (i 2).val < 128 := (i 2).isLt; omega⟩)

/-- Head `h` of a carried array. -/
def hv (X : FVec Ideal S4x512x128 .f32) (h : ℕ) (hh : h < 4) : FVec Ideal S1x512x128 .f32 :=
  fun i => X (ix3 ⟨h, hh⟩ (i 1) (i 2))

theorem ld_q (X : Vec Ideal S1x512x512 .bf16) (o : ℕ) (h : ∀ a, ![0, 0, o] a + ![1, 512, 128] a ≤ S1x512x512.size a) :
    View.ld (Val := Elt Ideal) X (Rect.unit (s := S1x512x512) ![0, 0, o] ![1, 512, 128] h) = qv X o (h 2) := by
  funext i
  refine congrArg X (funext fun a => Fin.ext ?_)
  match a with
  | 0 => show 0 + 1 * (i 0).val = 0; have h : (i 0).val < 1 := (i 0).isLt; omega
  | 1 => show 0 + 1 * (i 1).val = (i 1).val; omega
  | 2 => show o + 1 * (i 2).val = o + (i 2).val; omega

theorem ld_k (X : Vec Ideal S1x2816x512 .bf16) (o : ℕ) (h : ∀ a, ![0, 0, o] a + ![1, 2816, 128] a ≤ S1x2816x512.size a) :
    View.ld (Val := Elt Ideal) X (Rect.unit (s := S1x2816x512) ![0, 0, o] ![1, 2816, 128] h) = kv X o (h 2) := by
  funext i
  refine congrArg X (funext fun a => Fin.ext ?_)
  match a with
  | 0 => show 0 + 1 * (i 0).val = 0; have h : (i 0).val < 1 := (i 0).isLt; omega
  | 1 => show 0 + 1 * (i 1).val = (i 1).val; omega
  | 2 => show o + 1 * (i 2).val = o + (i 2).val; omega

theorem ld_h (X : Vec Ideal S4x512x128 .f32) (o : ℕ) (h : ∀ a, ![o, 0, 0] a + ![1, 512, 128] a ≤ S4x512x128.size a) :
    View.ld (Val := Elt Ideal) X (Rect.unit (s := S4x512x128) ![o, 0, 0] ![1, 512, 128] h) = hv X o (h 0) := by
  funext i
  refine congrArg X (funext fun a => Fin.ext ?_)
  match a with
  | 0 => show o + 1 * (i 0).val = o; have h : (i 0).val < 1 := (i 0).isLt; omega
  | 1 => show 0 + 1 * (i 1).val = (i 1).val; omega
  | 2 => show 0 + 1 * (i 2).val = (i 2).val; omega

theorem rd0 (X : Vec Ideal S4x512x128 .f32) (h : (Memref.whole cc0_scratch0).IsWhole) :
    View.read (Elt Ideal) (View.whole cc0_scratch0) (h.unread X) = X := h.read_unread X

theorem rd1 (X : Vec Ideal S4x512x128 .f32) (h : (Memref.whole cc0_scratch1).IsWhole) :
    View.read (Elt Ideal) (View.whole cc0_scratch1) (h.unread X) = X := h.read_unread X

theorem rd2 (X : Vec Ideal S4x512x128 .f32) (h : (Memref.whole cc0_scratch2).IsWhole) :
    View.read (Elt Ideal) (View.whole cc0_scratch2) (h.unread X) = X := h.read_unread X

theorem idx3_of {x : S1x512x128.Idx} {r : Fin 512} {d : Fin 128} (h1 : r.val = (x 1).val) (h2 : d.val = (x 2).val) :
    x = ix3 0 r d := by
  refine funext fun a => Fin.ext ?_
  match a with
  | 0 => show (x 0).val = 0; have h : (x 0).val < 1 := (x 0).isLt; omega
  | 1 => exact h1.symm
  | 2 => exact h2.symm

theorem canon_head (n : ℕ) (inb : ∀ a, ![n, 0, 0] a + ![1, 512, 128] a ≤ S4x512x128.size a)
    (P : S1x512x128.Idx → Elt Ideal .f32) (L : List (View.Piece (Elt Ideal) S4x512x128 .f32)) (h : Fin 4) (r : Fin 512) (d : Fin 128) :
    View.canon (⟨Rect.unit (s := S4x512x128) ![n, 0, 0] ![1, 512, 128] inb, P⟩ :: L) (ix3 h r d)
      = if h.val = n then P (ix3 0 r d) else View.canon L (ix3 h r d) := by
  split
  · next e =>
    subst e
    refine Eq.trans (congrArg _ ?_) (View.canon_cons_emb (Rect.unit (s := S4x512x128) ![h.val, 0, 0] ![1, 512, 128] inb) P L (ix3 0 r d))
    refine funext fun a => Fin.ext ?_
    match a with
    | 0 => show h.val = h.val + 1 * 0; omega
    | 1 => show r.val = 0 + 1 * r.val; omega
    | 2 => show d.val = 0 + 1 * d.val; omega
  · next e =>
    refine View.canon_cons_of_not_mem _ _ fun hm => e ?_
    obtain ⟨x, hx⟩ := (Rect.unit (s := S4x512x128) ![n, 0, 0] ![1, 512, 128] inb).exists_idx_of_mem hm
    have h1 : n + 1 * (x 0).val = h.val := congrArg (fun y => (y 0).val) hx
    have h2 : (x 0).val < 1 := (x 0).isLt
    omega

/-- What a step leaves in the carried maxima, over what the step before left. -/
theorem stepB_m (c : Dev nD) (t : Fin cfg0.N) (h0 : ¬t.val % 3 = 0) (h1 : ¬t.val % 3 = 2) (h : Fin 4) (r : Fin 512) (d : Fin 128) :
    (outsAt0 m c t.val t.isLt).2.1 (ix3 h r d)
      = headM (qv (iblk m c 0 t) (128 * h) (by omega)) (kv (iblk m c 1 t) (128 * h) (by omega))
         (hv (outsAt0 m c (t.val - 1) (by omega)).2.1 h h.isLt) r d := by
  rw [outsAt0_B m c t h0 h1]
  frame_out
  simp (disch := decide) only [canon_head, ld_q, ld_k, ld_h, rd0, rd1, rd2]
  match h with
  | 0 => exact storeM _ _ _ r d
  | 1 => exact storeM _ _ _ r d
  | 2 => exact storeM _ _ _ r d
  | 3 => exact storeM _ _ _ r d

/-- What a step leaves in the carried sums, over what the step before left. -/
theorem stepB_l (c : Dev nD) (t : Fin cfg0.N) (h0 : ¬t.val % 3 = 0) (h1 : ¬t.val % 3 = 2) (h : Fin 4) (r : Fin 512) (d : Fin 128) :
    (outsAt0 m c t.val t.isLt).2.2.1 (ix3 h r d)
      = headL (qv (iblk m c 0 t) (128 * h) (by omega)) (kv (iblk m c 1 t) (128 * h) (by omega))
         (hv (outsAt0 m c (t.val - 1) (by omega)).2.1 h h.isLt) (hv (outsAt0 m c (t.val - 1) (by omega)).2.2.1 h h.isLt) r d := by
  rw [outsAt0_B m c t h0 h1]
  frame_out
  simp (disch := decide) only [canon_head, ld_q, ld_k, ld_h, rd0, rd1, rd2]
  match h with
  | 0 => exact storeL _ _ _ _ r d
  | 1 => exact storeL _ _ _ _ r d
  | 2 => exact storeL _ _ _ _ r d
  | 3 => exact storeL _ _ _ _ r d

/-- What a step leaves in the carried accumulators, over what the step before left. -/
theorem stepB_a (c : Dev nD) (t : Fin cfg0.N) (h0 : ¬t.val % 3 = 0) (h1 : ¬t.val % 3 = 2) (h : Fin 4) (r : Fin 512) (d : Fin 128) :
    (outsAt0 m c t.val t.isLt).2.2.2 (ix3 h r d)
      = headA (qv (iblk m c 0 t) (128 * h) (by omega)) (kv (iblk m c 1 t) (128 * h) (by omega))
         (hv (outsAt0 m c (t.val - 1) (by omega)).2.1 h h.isLt) (hv (outsAt0 m c (t.val - 1) (by omega)).2.2.2 h h.isLt)
         (kv (iblk m c 2 t) (128 * h) (by omega)) r d := by
  rw [outsAt0_B m c t h0 h1]
  frame_out
  simp (disch := decide) only [canon_head, ld_q, ld_k, ld_h, rd0, rd1, rd2]
  match h with
  | 0 => exact storeA _ _ _ _ _ r d
  | 1 => exact storeA _ _ _ _ _ r d
  | 2 => exact storeA _ _ _ _ _ r d
  | 3 => exact storeA _ _ _ _ _ r d

theorem stepC_m (c : Dev nD) (t : Fin cfg0.N) (h0 : ¬t.val % 3 = 0) (h1 : t.val % 3 = 2) (h : Fin 4) (r : Fin 512) (d : Fin 128) :
    (outsAt0 m c t.val t.isLt).2.1 (ix3 h r d)
      = headM (qv (iblk m c 0 t) (128 * h) (by omega)) (kv (iblk m c 1 t) (128 * h) (by omega))
         (hv (outsAt0 m c (t.val - 1) (by omega)).2.1 h h.isLt) r d := by
  rw [outsAt0_C m c t h0 h1]
  frame_out
  simp (disch := decide) only [canon_head, ld_q, ld_k, ld_h, rd0, rd1, rd2]
  match h with
  | 0 => exact storeM _ _ _ r d
  | 1 => exact storeM _ _ _ r d
  | 2 => exact storeM _ _ _ r d
  | 3 => exact storeM _ _ _ r d

theorem stepC_l (c : Dev nD) (t : Fin cfg0.N) (h0 : ¬t.val % 3 = 0) (h1 : t.val % 3 = 2) (h : Fin 4) (r : Fin 512) (d : Fin 128) :
    (outsAt0 m c t.val t.isLt).2.2.1 (ix3 h r d)
      = headL (qv (iblk m c 0 t) (128 * h) (by omega)) (kv (iblk m c 1 t) (128 * h) (by omega))
         (hv (outsAt0 m c (t.val - 1) (by omega)).2.1 h h.isLt) (hv (outsAt0 m c (t.val - 1) (by omega)).2.2.1 h h.isLt) r d := by
  rw [outsAt0_C m c t h0 h1]
  frame_out
  simp (disch := decide) only [canon_head, ld_q, ld_k, ld_h, rd0, rd1, rd2]
  match h with
  | 0 => exact storeL _ _ _ _ r d
  | 1 => exact storeL _ _ _ _ r d
  | 2 => exact storeL _ _ _ _ r d
  | 3 => exact storeL _ _ _ _ r d

theorem stepC_a (c : Dev nD) (t : Fin cfg0.N) (h0 : ¬t.val % 3 = 0) (h1 : t.val % 3 = 2) (h : Fin 4) (r : Fin 512) (d : Fin 128) :
    (outsAt0 m c t.val t.isLt).2.2.2 (ix3 h r d)
      = headA (qv (iblk m c 0 t) (128 * h) (by omega)) (kv (iblk m c 1 t) (128 * h) (by omega))
         (hv (outsAt0 m c (t.val - 1) (by omega)).2.1 h h.isLt) (hv (outsAt0 m c (t.val - 1) (by omega)).2.2.2 h h.isLt)
         (kv (iblk m c 2 t) (128 * h) (by omega)) r d := by
  rw [outsAt0_C m c t h0 h1]
  frame_out
  simp (disch := decide) only [canon_head, ld_q, ld_k, ld_h, rd0, rd1, rd2]
  match h with
  | 0 => exact storeA _ _ _ _ _ r d
  | 1 => exact storeA _ _ _ _ _ r d
  | 2 => exact storeA _ _ _ _ _ r d
  | 3 => exact storeA _ _ _ _ _ r d

end Cert.Attn
end
-- ==== Proof.AttnStepA.lean ====
module

public import proofs.«01_k».proof.Proof.Gen.KernelIdeal.Value
public import proofs.«01_k».proof.Proof.AttnOut
public import proofs.«01_k».proof.Proof.AttnStep
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Attn

open Idealize.ShloMosaic Idealize.ShloMosaic.TcCoe Idealize.SL.Sem Cert.KernelIdeal Cert.KernelIdeal.Gen Cert.KernelIdeal.Value
open Idealize.ShloMosaic.Pipeline (Dat)

variable (m : (ℓ : Loc nD τ sig) → Buf (Elt Ideal) ℓ)

theorem zero_word : Ideal.ofBits FTy.f32 0#32 = 0 := by
  simp [Ideal.ofBits, Ideal.ieee]

theorem pay8_eq : (k0_pay8 : FVec Ideal S4x512x128 .f32) = fun _ => ⊥ := by
  funext i; exact neg_inf
theorem pay9_eq : (k0_pay9 : FVec Ideal S4x512x128 .f32) = fun _ => 0 := by
  funext i; exact zero_word
theorem pay10_eq : (k0_pay10 : FVec Ideal S4x512x128 .f32) = fun _ => 0 := by
  funext i; exact zero_word

theorem stepA_m (c : Dev nD) (t : Fin cfg0.N) (h0 : t.val % 3 = 0) (h1 : ¬t.val % 3 = 2) (h : Fin 4) (r : Fin 512) (d : Fin 128) :
    (outsAt0 m c t.val t.isLt).2.1 (ix3 h r d)
      = headM (qv (iblk m c 0 t) (128 * h) (by omega)) (kv (iblk m c 1 t) (128 * h) (by omega))
         (fun _ => ⊥) r d := by
  rw [outsAt0_A m c t h0 h1]
  frame_out
  simp (disch := decide) only [canon_head, ↓View.readCov_skip, ↓View.readCov_fill, ld_q, ld_k, pay8_eq, pay9_eq, pay10_eq]
  match h with
  | 0 => exact storeM _ _ _ r d
  | 1 => exact storeM _ _ _ r d
  | 2 => exact storeM _ _ _ r d
  | 3 => exact storeM _ _ _ r d

theorem stepA_l (c : Dev nD) (t : Fin cfg0.N) (h0 : t.val % 3 = 0) (h1 : ¬t.val % 3 = 2) (h : Fin 4) (r : Fin 512) (d : Fin 128) :
    (outsAt0 m c t.val t.isLt).2.2.1 (ix3 h r d)
      = headL (qv (iblk m c 0 t) (128 * h) (by omega)) (kv (iblk m c 1 t) (128 * h) (by omega))
         (fun _ => ⊥) (fun _ => 0) r d := by
  rw [outsAt0_A m c t h0 h1]
  frame_out
  simp (disch := decide) only [canon_head, ↓View.readCov_skip, ↓View.readCov_fill, ld_q, ld_k, pay8_eq, pay9_eq, pay10_eq]
  match h with
  | 0 => exact storeL _ _ _ _ r d
  | 1 => exact storeL _ _ _ _ r d
  | 2 => exact storeL _ _ _ _ r d
  | 3 => exact storeL _ _ _ _ r d

theorem stepA_a (c : Dev nD) (t : Fin cfg0.N) (h0 : t.val % 3 = 0) (h1 : ¬t.val % 3 = 2) (h : Fin 4) (r : Fin 512) (d : Fin 128) :
    (outsAt0 m c t.val t.isLt).2.2.2 (ix3 h r d)
      = headA (qv (iblk m c 0 t) (128 * h) (by omega)) (kv (iblk m c 1 t) (128 * h) (by omega))
         (fun _ => ⊥) (fun _ => 0)
         (kv (iblk m c 2 t) (128 * h) (by omega)) r d := by
  rw [outsAt0_A m c t h0 h1]
  frame_out
  simp (disch := decide) only [canon_head, ↓View.readCov_skip, ↓View.readCov_fill, ld_q, ld_k, pay8_eq, pay9_eq, pay10_eq]
  match h with
  | 0 => exact storeA _ _ _ _ _ r d
  | 1 => exact storeA _ _ _ _ _ r d
  | 2 => exact storeA _ _ _ _ _ r d
  | 3 => exact storeA _ _ _ _ _ r d

theorem rc (v : View sig .tc .vmem S4x512x128 .f32) (L : List (View.Piece (Elt Ideal) S4x512x128 .f32)) (r : Rect S4x512x128) :
    v.readCov L r.toLoadRect = View.ld (View.canon L) r := View.readCov_eq_canon' v L r.toLoadRect

/-- What the last step of a query block writes out: each head's accumulator over its sum. -/
theorem stepC_o (c : Dev nD) (t : Fin cfg0.N) (h0 : ¬t.val % 3 = 0) (h1 : t.val % 3 = 2) (r : Fin 512) (d : Fin 256)
    (h : Fin 4) (e : Fin 128) (hh : h.val = 2 * (d.val / 128) + d.val % 128 / 64) (he : e.val = d.val % 128) :
    (outsAt0 m c t.val t.isLt).1 (ix3 0 r d)
      = hv (outsAt0 m c t.val t.isLt).2.2.2 h h.isLt (ix3 0 r e)
        * Ideal.div 1 (∑ x, hv (outsAt0 m c t.val t.isLt).2.2.1 h h.isLt (ix3 0 r x)) := by
  refine Eq.trans ?_ (storeO (fun h => hv (outsAt0 m c t.val t.isLt).2.2.2 h h.isLt) (fun h => hv (outsAt0 m c t.val t.isLt).2.2.1 h h.isLt) r d h e hh he)
  rw [outsAt0_C m c t h0 h1]
  frame_out
  simp only [rc, ld_h]
  rfl

end Cert.Attn
end
-- ==== Proof.AttnMath.lean ====
module

public import proofs.«01_k».proof.Proof.AttnPay

@[expose] public section

noncomputable section

namespace Cert.Attn

open Idealize.ShloMosaic Cert.KernelIdeal Cert.KernelIdeal.Gen

/-- A real factor that is not negative goes into a sum of extended reals. -/
theorem coe_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

/-- The sum of reals is the sum of the extended reals they are. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of finitely many reals, at least one, is real. -/
theorem fold_max_real {n : ℕ} (f : Fin (n + 1) → EReal) (T : Fin (n + 1) → ℝ) (h : ∀ k, f k = T k) :
    ∃ μ : ℝ, Finset.univ.fold max ⊥ f = μ := by
  have e : Finset.univ.fold max ⊥ f = Finset.univ.sup f := rfl
  obtain ⟨i, _, hi⟩ := Finset.exists_mem_eq_sup Finset.univ Finset.univ_nonempty f
  exact ⟨T i, by rw [e, hi, h]⟩

/-- The weight of key `k` of block `j`, relative to `μ`, base two. -/
def wt (T : Fin 3 → Fin 2816 → ℝ) (μ : ℝ) (j : Fin 3) (k : Fin 2816) : ℝ := Real.rpow 2 (T j k - μ)

theorem wt_pos (T : Fin 3 → Fin 2816 → ℝ) (μ : ℝ) (j : Fin 3) (k : Fin 2816) : 0 < wt T μ j k :=
  Real.rpow_pos_of_pos two_pos _

theorem wt_shift (T : Fin 3 → Fin 2816 → ℝ) (μ ν : ℝ) (j : Fin 3) (k : Fin 2816) :
    Real.rpow 2 (μ - ν) * wt T μ j k = wt T ν j k := by
  show (2:ℝ) ^ (μ - ν) * (2:ℝ) ^ (T j k - μ) = (2:ℝ) ^ (T j k - ν)
  rw [← Real.rpow_add two_pos]
  congr 1; ring

/-- What a row's maxima, sums and accumulators are once the key blocks `J` are in: all relative to one real. -/
def Inv (T : Fin 3 → Fin 2816 → ℝ) (v : Fin 3 → Fin 2816 → Fin 128 → EReal) (J : Finset (Fin 3)) (M L A : Fin 128 → EReal) : Prop :=
  ∃ μ : ℝ, (∀ d, M d = μ)
    ∧ (∀ d, L d = ((∑ j ∈ J, ∑ c : Fin 22, wt T μ j ⟨c.val * 128 + d.val, by omega⟩ : ℝ) : EReal))
    ∧ ∀ d, A d = ∑ j ∈ J, ∑ k, (wt T μ j k : EReal) * v j k d

section
variable (T : Fin 3 → Fin 2816 → ℝ) (v : Fin 3 → Fin 2816 → Fin 128 → EReal)
  (Q : FVec Ideal S1x512x128 .bf16) (K V : FVec Ideal S1x2816x128 .bf16) (M L A : FVec Ideal S1x512x128 .f32) (r : Fin 512) (j : Fin 3)
  (hs : ∀ k, score Q K r k = T j k) (hv : ∀ k d, V (ix3 0 k d) = v j k d)

include hs in
theorem weight_real (μ : ℝ) (hM : headM Q K M r 0 = μ) (k : Fin 2816) : headP Q K M r k = wt T μ j k := by
  rw [headP, hs, hM, ← EReal.coe_sub, Ideal.exp2_coe]; rfl

include hs hv in
/-- The first block of keys. -/
theorem inv_first (hM : ∀ i, M i = ⊥) (hL : ∀ i, L i = 0) (hA : ∀ i, A i = 0) :
    Inv T v {j} (headM Q K M r) (headL Q K M L r) (headA Q K M A V r) := by
  obtain ⟨μ, hμ⟩ := fold_max_real _ (T j) hs
  have h : ∀ d, headM Q K M r d = μ := fun d => by rw [headM, hM, hμ]; exact max_eq_right bot_le
  refine ⟨μ, h, fun d => ?_, fun d => ?_⟩
  · rw [headL, hL, mul_zero, zero_add, Finset.sum_singleton, coe_sum]
    exact Finset.sum_congr rfl fun c _ => weight_real T Q K M r j hs μ (h 0) _
  · rw [headA, hA, mul_zero, zero_add, Finset.sum_singleton]
    exact Finset.sum_congr rfl fun k _ => by rw [weight_real T Q K M r j hs μ (h 0), hv]

include hs hv in
/-- A further block of keys. -/
theorem inv_step (J : Finset (Fin 3)) (hj : j ∉ J)
    (hI : Inv T v J (fun d => M (ix3 0 r d)) (fun d => L (ix3 0 r d)) (fun d => A (ix3 0 r d))) :
    Inv T v (insert j J) (headM Q K M r) (headL Q K M L r) (headA Q K M A V r) := by
  obtain ⟨μ₀, hM, hL, hA⟩ := hI
  obtain ⟨μ₁, hμ⟩ := fold_max_real _ (T j) hs
  have h : ∀ d, headM Q K M r d = ((max μ₀ μ₁ : ℝ) : EReal) := fun d => by
    rw [headM, hμ, EReal.coe_strictMono.monotone.map_max]; exact congrArg (max · _) (hM d)
  generalize max μ₀ μ₁ = μ at h
  have ha : ∀ d, Ideal.exp2 (M (ix3 0 r d) - headM Q K M r d) = ((Real.rpow 2 (μ₀ - μ) : ℝ) : EReal) := fun d => by
    have := hM d; dsimp only at this
    rw [h, this, ← EReal.coe_sub, Ideal.exp2_coe]
  refine ⟨μ, h, fun d => ?_, fun d => ?_⟩
  · have := hL d; dsimp only at this
    rw [headL, ha, this, ← EReal.coe_mul, Finset.sum_insert hj, EReal.coe_add, add_comm]
    congr 1
    · rw [coe_sum]
      exact Finset.sum_congr rfl fun c _ => weight_real T Q K M r j hs μ (h 0) _
    · refine congrArg _ ?_
      rw [Finset.mul_sum]
      refine Finset.sum_congr rfl fun i _ => ?_
      rw [Finset.mul_sum]
      exact Finset.sum_congr rfl fun c _ => wt_shift T μ₀ μ i _
  · have := hA d; dsimp only at this
    have h2 : 0 ≤ Real.rpow 2 (μ₀ - μ) := (Real.rpow_pos_of_pos two_pos _).le
    rw [headA, ha, this, Finset.sum_insert hj, add_comm, coe_mul_sum _ h2]
    congr 1
    · exact Finset.sum_congr rfl fun k _ => by rw [weight_real T Q K M r j hs μ (h 0), hv]
    · refine Finset.sum_congr rfl fun i _ => ?_
      rw [coe_mul_sum _ h2]
      exact Finset.sum_congr rfl fun k _ => by rw [← mul_assoc, ← EReal.coe_mul, wt_shift]

end

/-- A sum over a block's keys, taken lane by lane. -/
theorem sum_lanes (f : Fin 2816 → ℝ) : ∑ x : Fin 128, ∑ c : Fin 22, f ⟨c.val * 128 + x.val, by omega⟩ = ∑ k, f k := by
  rw [Finset.sum_comm, ← Fintype.sum_prod_type', ← Equiv.sum_comp (finProdFinEquiv (m := 22) (n := 128)) f]
  refine Finset.sum_congr rfl fun p _ => congrArg f (Fin.ext ?_)
  show p.1.val * 128 + p.2.val = p.2.val + 128 * p.1.val
  omega

/-- When every block is in, the accumulator over the sum is the values' average by the exponentials of the scores. -/
theorem inv_out (T S : Fin 3 → Fin 2816 → ℝ) (v : Fin 3 → Fin 2816 → Fin 128 → EReal) (M L A : Fin 128 → EReal)
    (hI : Inv T v Finset.univ M L A) (hS : ∀ j k, T j k * Real.log 2 = S j k) (d : Fin 128) :
    A d * Ideal.div 1 (∑ x, L x)
      = ∑ j, ∑ k, ((Real.exp (S j k) / ∑ j, ∑ k, Real.exp (S j k) : ℝ) : EReal) * v j k d := by
  obtain ⟨μ, -, hL, hA⟩ := hI
  have hw : ∀ j k, wt T μ j k = Real.exp (S j k) * Real.exp (-(μ * Real.log 2)) := fun j k => by
    show (2:ℝ) ^ (T j k - μ) = _
    rw [Real.rpow_def_of_pos two_pos, ← Real.exp_add, ← hS]
    congr 1; ring
  have hsum : ∑ x, L x = (((∑ j, ∑ k, Real.exp (S j k)) * Real.exp (-(μ * Real.log 2)) : ℝ) : EReal) := by
    simp only [hL]
    rw [← coe_sum, Finset.sum_comm]
    refine congrArg _ ?_
    rw [Finset.sum_mul]
    refine Finset.sum_congr rfl fun j _ => ?_
    rw [sum_lanes (wt T μ j), Finset.sum_mul]
    exact Finset.sum_congr rfl fun k _ => hw j k
  have hZ : 0 < ∑ j, ∑ k, Real.exp (S j k) :=
    Finset.sum_pos (fun j _ => Finset.sum_pos (fun k _ => Real.exp_pos _) Finset.univ_nonempty) Finset.univ_nonempty
  generalize ∑ j, ∑ k, Real.exp (S j k) = Z at *
  have hE := Real.exp_pos (-(μ * Real.log 2))
  generalize Real.exp (-(μ * Real.log 2)) = E at *
  have hp : 0 < Z * E := mul_pos hZ hE
  rw [hsum, Ideal.div_coe hp.ne', one_mul, hA, mul_comm, coe_mul_sum _ (one_div_pos.mpr hp).le]
  refine Finset.sum_congr rfl fun j _ => ?_
  rw [coe_mul_sum _ (one_div_pos.mpr hp).le]
  refine Finset.sum_congr rfl fun k _ => ?_
  rw [← mul_assoc, ← EReal.coe_mul, hw]
  refine congrArg (fun x : ℝ => (x : EReal) * _) ?_
  field_simp

end Cert.Attn
end
-- ==== Proof.AttnHost.lean ====
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem Cert.KernelIdeal Cert.KernelIdeal.Gen Cert.KernelIdeal.Value
open Idealize.ShloMosaic.Pipeline (Dat)

variable (m : (ℓ : Loc nD τ sig) → Buf (Elt Ideal) ℓ)

/-- Which block each operand's window holds at a grid point. -/
theorem idx : ∀ t : Fin cfg0.N, win0_0.index t = ![t.val / 48, t.val / 3 % 16, 0] ∧ win0_1.index t = ![t.val / 48, t.val % 3, 0]
    ∧ win0_2.index t = ![t.val / 48, t.val % 3, 0] :=
  (by decide +kernel : ∀ t : Fin grid0.N, _)

section
variable (c : Dev nD) (W : (b : Ref sig .tc) → Buf (Elt Ideal) ((c : Thread nD τ).loc b)) (t : Fin cfg0.N) (l : Fin 512) (b : Fin 4)
  (hb : b.val = t.val / 48)

include hb in
/-- The query block of a point, read off the packed queries. -/
theorem q_rd (r : Fin 512) (n : Fin 8192) (hn : n.val = 512 * (t.val / 3 % 16) + r.val) :
    ((cfg0.win 0).blk t).view.read (Elt Ideal) (W (Pipeline.arrRef spec0 0)) (ix3 0 r l) = W main_v7 (ix3 b n l) := by
  blk_ext [idx t]

include hb in
/-- The key block of a point, read off the packed keys. -/
theorem k_rd (r : Fin 2816) (n : Fin 8448) (hn : n.val = 2816 * (t.val % 3) + r.val) :
    ((cfg0.win 1).blk t).view.read (Elt Ideal) (W (Pipeline.arrRef spec0 1)) (ix3 0 r l) = W main_v12 (ix3 b n l) := by
  blk_ext [idx t]

include hb in
/-- The value block of a point, read off the packed values. -/
theorem v_rd (r : Fin 2816) (n : Fin 8448) (hn : n.val = 2816 * (t.val % 3) + r.val) :
    ((cfg0.win 2).blk t).view.read (Elt Ideal) (W (Pipeline.arrRef spec0 2)) (ix3 0 r l) = W main_v24 (ix3 b n l) := by
  blk_ext [idx t]

end

/-- The query of sample `b`, position `n`, head `h`. -/
def qA (c : Dev nD) (b : Fin 4) (n : Fin 8192) (h : Fin 4) (d : Fin 96) : EReal := m (c, Proc.tc.devRef main_arg0) (ix4 b n h d)

/-- The keys in the kernel's order: the latents', then the context's. -/
def kA (c : Dev nD) (b : Fin 4) (n : Fin 8448) (h : Fin 4) (d : Fin 96) : EReal :=
  if hn : n.val < 8192 then m (c, Proc.tc.devRef main_arg3) (ix4 b ⟨n.val, hn⟩ h d)
  else m (c, Proc.tc.devRef main_arg1) (ix4 b ⟨n.val - 8192, by omega⟩ h d)

/-- The values in the kernel's order: the latents', then the context's. -/
def vA (c : Dev nD) (b : Fin 4) (n : Fin 8448) (h : Fin 4) (d : Fin 64) : EReal :=
  if hn : n.val < 8192 then m (c, Proc.tc.devRef main_arg4) (ix4 b ⟨n.val, hn⟩ h d)
  else m (c, Proc.tc.devRef main_arg2) (ix4 b ⟨n.val - 8192, by omega⟩ h d)

theorem lane_div (h : Fin 4) (d : Fin 128) : (128 * h.val + d.val) / 128 = h.val := by omega
theorem lane_mod (h : Fin 4) (d : Fin 128) : (128 * h.val + d.val) % 128 = d.val := by omega

/-- The packed queries: scaled, zero in the lanes past the head's 96. -/
theorem q_host (c : Dev nD) (b : Fin 4) (n : Fin 8192) (h : Fin 4) (d : Fin 128) :
    @Eq EReal (V m c main_v7 (ix3 b n (⟨128 * h.val + d.val, by omega⟩ : Fin 512)))
      ((if hd : d.val < 96 then qA m c b n h ⟨d.val, hd⟩ else 0)
        * Ideal.div (Ideal.ofBits FTy.f32 1037108716#32) (Ideal.log (Ideal.ofBits FTy.f32 1073741824#32))) := by
  entry_read
  pointwise
  simp only [lane_div, lane_mod, Fin.eta, qA]

/-- The packed keys: zero in the lanes past the head's 96. -/
theorem k_host (c : Dev nD) (b : Fin 4) (n : Fin 8448) (h : Fin 4) (d : Fin 128) :
    @Eq EReal (V m c main_v12 (ix3 b n (⟨128 * h.val + d.val, by omega⟩ : Fin 512)))
      (if hd : d.val < 96 then kA m c b n h ⟨d.val, hd⟩ else 0) := by
  entry_read
  pointwise
  simp only [lane_div, lane_mod, Fin.eta, kA]

theorem parity_bit : ∀ h : Fin 4, IntOp.cmpi CmpIPredicate.eq (IntOp.remsi ArithUnit.host (BitVec.ofNat 32 h.val) 2#32) 1#32
    = if h.val % 2 = 1 then 1#1 else 0#1 := by decide

/-- The choice by the head's parity, as the program computes it. -/
theorem parity (h : Fin 4) (x y : EReal) :
    Scalar.select (IntOp.cmpi CmpIPredicate.eq (IntOp.remsi ArithUnit.host (BitVec.ofNat 32 h.val) 2#32) 1#32) x y
    = if h.val % 2 = 1 then x else y := by
  rw [parity_bit]
  by_cases h2 : h.val % 2 = 1
  · rw [if_pos h2, if_pos h2]; rfl
  · rw [if_neg h2, if_neg h2]; rfl

/-- The packed values: an even head's in the lower 64 lanes, an odd head's in the upper 64. -/
theorem v_host (c : Dev nD) (b : Fin 4) (n : Fin 8448) (h : Fin 4) (d : Fin 128) (hd : d.val / 64 = h.val % 2) :
    @Eq EReal (V m c main_v24 (ix3 b n (⟨128 * h.val + d.val, by omega⟩ : Fin 512)))
      (vA m c b n h ⟨d.val % 64, by omega⟩) := by
  entry_read
  pointwise
  simp only [lane_div, lane_mod, Fin.eta]
  simp only [parity]
  by_cases h2 : h.val % 2 = 1
  · have e : d.val - 64 = d.val % 64 := by omega
    simp only [if_pos h2, dif_neg (show ¬d.val < 64 by omega), e, vA]
  · have e : d.val = d.val % 64 := by omega
    simp only [if_neg h2, dif_pos (show d.val < 64 by omega), ← e, vA]

end Cert.Attn
end
-- ==== Proof.AttnInv.lean ====
module

public import proofs.«01_k».proof.Proof.AttnStepA
public import proofs.«01_k».proof.Proof.AttnMath
public import proofs.«01_k».proof.Proof.AttnHost

@[expose] public section

set_option maxRecDepth 16384

noncomputable section

namespace Cert.Attn

open Idealize.ShloMosaic Idealize.ShloMosaic.TcCoe Idealize.SL.Sem Cert.KernelIdeal Cert.KernelIdeal.Gen Cert.KernelIdeal.Value
open Idealize.ShloMosaic.Pipeline (Dat)

variable (m : (ℓ : Loc nD τ sig) → Buf (Elt Ideal) ℓ) (c : Dev nD)

/-- The carried invariant at a row of a head after point `n`. -/
def InvAt (T : Fin 3 → Fin 2816 → ℝ) (v : Fin 3 → Fin 2816 → Fin 128 → EReal) (J : Finset (Fin 3)) (h : Fin 4) (r : Fin 512) (n : ℕ) (hn : n < cfg0.N) : Prop :=
  Inv T v J (fun d => (outsAt0 m c n hn).2.1 (ix3 h r d)) (fun d => (outsAt0 m c n hn).2.2.1 (ix3 h r d))
    (fun d => (outsAt0 m c n hn).2.2.2 (ix3 h r d))

section
variable (T : Fin 3 → Fin 2816 → ℝ) (v : Fin 3 → Fin 2816 → Fin 128 → EReal) (t : Fin cfg0.N) (h : Fin 4) (r : Fin 512) (j : Fin 3)
  (hs : ∀ k, score (qv (iblk m c 0 t) (128 * h) (by omega)) (kv (iblk m c 1 t) (128 * h) (by omega)) r k = T j k)
  (hv : ∀ k d, kv (iblk m c 2 t) (128 * h) (by omega) (ix3 0 k d) = v j k d)

include hs hv in
/-- After the first block of keys. -/
theorem inv_A (h0 : t.val % 3 = 0) : InvAt m c T v {j} h r t.val t.isLt := by
  have h1 : ¬t.val % 3 = 2 := by omega
  unfold InvAt
  rw [funext fun d => stepA_m m c t h0 h1 h r d, funext fun d => stepA_l m c t h0 h1 h r d, funext fun d => stepA_a m c t h0 h1 h r d]
  exact inv_first T v _ _ _ _ _ _ r j hs hv (fun _ => rfl) (fun _ => rfl) (fun _ => rfl)

include hs hv in
/-- After a further block of keys. -/
theorem inv_BC (h0 : ¬t.val % 3 = 0) (J : Finset (Fin 3)) (hj : j ∉ J) (hI : InvAt m c T v J h r (t.val - 1) (by omega)) :
    InvAt m c T v (insert j J) h r t.val t.isLt := by
  unfold InvAt
  by_cases h1 : t.val % 3 = 2
  · rw [funext fun d => stepC_m m c t h0 h1 h r d, funext fun d => stepC_l m c t h0 h1 h r d, funext fun d => stepC_a m c t h0 h1 h r d]
    exact inv_step T v _ _ _ _ _ _ r j hs hv J hj hI
  · rw [funext fun d => stepB_m m c t h0 h1 h r d, funext fun d => stepB_l m c t h0 h1 h r d, funext fun d => stepB_a m c t h0 h1 h r d]
    exact inv_step T v _ _ _ _ _ _ r j hs hv J hj hI

end

/-- The score scale's word, a real. -/
def cw : ℝ := 13698540 / 134217728

theorem cw_eq : Ideal.ofBits FTy.f32 1037108716#32 = (cw : EReal) := by
  simp [Ideal.ofBits, Ideal.ieee, cw]
  rw [← EReal.coe_mul]
  norm_num

theorem two_eq : Ideal.ofBits FTy.f32 1073741824#32 = ((2 : ℝ) : EReal) := by
  simp [Ideal.ofBits, Ideal.ieee]
  rw [← EReal.coe_mul]
  norm_num

/-- The queries' factor. -/
theorem scale_eq : Ideal.div (Ideal.ofBits FTy.f32 1037108716#32) (Ideal.log (Ideal.ofBits FTy.f32 1073741824#32))
    = ((cw / Real.log 2 : ℝ) : EReal) := by
  rw [cw_eq, two_eq, Ideal.log_coe, if_neg (by norm_num), Ideal.div_coe (Real.log_pos (by norm_num)).ne', ← EReal.coe_mul]
  congr 1; ring

section
variable (qr : Fin 4 → Fin 8192 → Fin 4 → Fin 96 → ℝ) (kr : Fin 4 → Fin 8448 → Fin 4 → Fin 96 → ℝ)
  (hq : ∀ b n h d, qA m c b n h d = qr b n h d) (hk : ∀ b n h d, kA m c b n h d = kr b n h d)

/-- Key `k` of the kernel's key block `j`. -/
def key (j : Fin 3) (k : Fin 2816) : Fin 8448 := ⟨2816 * j.val + k.val, by omega⟩

/-- The scores in base two. -/
def Tr (b : Fin 4) (n : Fin 8192) (h : Fin 4) (j : Fin 3) (k : Fin 2816) : ℝ :=
  ∑ d : Fin 96, qr b n h d * (cw / Real.log 2) * kr b (key j k) h d

/-- The scores. -/
def Sr (b : Fin 4) (n : Fin 8192) (h : Fin 4) (k : Fin 8448) : ℝ := (∑ d : Fin 96, qr b n h d * kr b k h d) * cw

theorem Tr_log (b : Fin 4) (n : Fin 8192) (h : Fin 4) (j : Fin 3) (k : Fin 2816) :
    Tr qr kr b n h j k * Real.log 2 = Sr qr kr b n h (key j k) := by
  rw [Tr, Sr, Finset.sum_mul, Finset.sum_mul]
  refine Finset.sum_congr rfl fun d _ => ?_
  have h2 : Real.log 2 ≠ 0 := (Real.log_pos (by norm_num)).ne'
  field_simp

include hq hk in
/-- A block's scores, in the arguments. -/
theorem score_eq (t : Fin cfg0.N) (b : Fin 4) (n : Fin 8192) (h : Fin 4) (r : Fin 512) (j : Fin 3) (k : Fin 2816)
    (hb : b.val = t.val / 48) (hn : n.val = 512 * (t.val / 3 % 16) + r.val) (hj : j.val = t.val % 3) :
    score (qv (iblk m c 0 t) (128 * h) (by omega)) (kv (iblk m c 1 t) (128 * h) (by omega)) r k = Tr qr kr b n h j k := by
  have e1 : ∀ d : Fin 128, qv (iblk m c 0 t) (128 * h) (by omega) (ix3 0 r d)
      = ((if hd : d.val < 96 then qr b n h ⟨d.val, hd⟩ * (cw / Real.log 2) else 0 : ℝ) : EReal) := fun d => by
    refine (q_rd c (V m c) t ⟨128 * h.val + d.val, by omega⟩ b hb r n hn).trans ?_
    refine (q_host m c b n h d).trans ?_
    rw [scale_eq]
    split
    · rw [hq, ← EReal.coe_mul]
    · rw [zero_mul, EReal.coe_zero]
  have e2 : ∀ d : Fin 128, kv (iblk m c 1 t) (128 * h) (by omega) (ix3 0 k d)
      = ((if hd : d.val < 96 then kr b (key j k) h ⟨d.val, hd⟩ else 0 : ℝ) : EReal) := fun d => by
    refine (k_rd c (V m c) t ⟨128 * h.val + d.val, by omega⟩ b hb k (key j k) (by rw [← hj]; rfl)).trans ?_
    refine (k_host m c b (key j k) h d).trans ?_
    split
    · rw [hk]
    · rw [EReal.coe_zero]
  rw [score, Tr]
  simp only [e1, e2, ← EReal.coe_mul]
  rw [← coe_sum]
  congr 1
  refine (Fin.sum_univ_add (a := 96) (b := 32) _).trans ?_
  rw [Finset.sum_eq_zero (s := (Finset.univ : Finset (Fin 32))) fun d _ => ?_, add_zero]
  · refine Finset.sum_congr rfl fun d _ => ?_
    have hd : (Fin.castAdd 32 d).val < 96 := d.isLt
    rw [dif_pos hd, dif_pos hd]
    rfl
  · have hd : ¬(Fin.natAdd 96 d).val < 96 := by show ¬96 + d.val < 96; omega
    rw [dif_neg hd, zero_mul]

/-- A block's values, in the arguments (only the head's own lanes are used). -/
theorem value_eq (t : Fin cfg0.N) (b : Fin 4) (h : Fin 4) (j : Fin 3) (k : Fin 2816) (d : Fin 128)
    (hb : b.val = t.val / 48) (hj : j.val = t.val % 3) :
    kv (iblk m c 2 t) (128 * h) (by omega) (ix3 0 k d) = V m c main_v24 (ix3 b (key j k) (⟨128 * h.val + d.val, by omega⟩ : Fin 512)) :=
  v_rd c (V m c) t ⟨128 * h.val + d.val, by omega⟩ b hb k (key j k) (by rw [← hj]; rfl)

include hq hk in
/-- What the kernel leaves in its result: the average of the values by the exponentials of the scores. -/
theorem result (b : Fin 4) (n : Fin 8192) (l : Fin 256) :
    @Eq EReal (G3 m c (ix3 b n l))
      (∑ j, ∑ k, ((Real.exp (Sr qr kr b n ⟨l.val / 64, by omega⟩ (key j k))
          / ∑ j, ∑ k, Real.exp (Sr qr kr b n ⟨l.val / 64, by omega⟩ (key j k)) : ℝ) : EReal)
        * vA m c b (key j k) ⟨l.val / 64, by omega⟩ ⟨l.val % 64, by omega⟩) := by
  have hN : cfg0.N = 192 := N_0
  obtain ⟨h, hh⟩ : ∃ h : Fin 4, h.val = l.val / 64 := ⟨⟨l.val / 64, by omega⟩, rfl⟩
  obtain ⟨r, hr⟩ : ∃ r : Fin 512, r.val = n.val % 512 := ⟨⟨n.val % 512, by omega⟩, rfl⟩
  obtain ⟨e, he⟩ : ∃ e : Fin 128, e.val = l.val % 128 := ⟨⟨l.val % 128, by omega⟩, rfl⟩
  obtain ⟨t, ht⟩ : ∃ t : Fin cfg0.N, t.val = 3 * (16 * b.val + n.val / 512) + 2 := ⟨⟨3 * (16 * b.val + n.val / 512) + 2, by omega⟩, rfl⟩
  have hp : pt3Of (ix3 b n l : S4x8192x256.Idx) = t.val := by
    show 3 * (16 * (b.val / 1 - 0) + 1 * (n.val / 512 - 0) + 1 * (l.val / 256 - 0)) + 2 = t.val
    omega
  have hl : loc3Of (ix3 b n l : S4x8192x256.Idx) = ix3 0 r l := by
    funext a; apply Fin.ext
    match a with
    | ⟨0, _⟩ => show b.val % 1 = 0; omega
    | ⟨1, _⟩ => exact hr.symm
    | ⟨2, _⟩ => show l.val % 256 = l.val; omega
  have hG : G3 m c (ix3 b n l) = (outsAt0 m c t.val t.isLt).1 (ix3 0 r l) := by
    unfold G3
    rw [dif_pos (by rw [hp]; exact t.isLt), hl, fold0_congr m c _ _ _ (by omega) hp, outsAt0_sweep]
  refine hG.trans ?_
  rw [stepC_o m c t (by omega) (by omega) r l h e (by omega) he]
  let v : Fin 3 → Fin 2816 → Fin 128 → EReal := fun j k d => V m c main_v24 (ix3 b (key j k) (⟨128 * h.val + d.val, by omega⟩ : Fin 512))
  let t1 : Fin cfg0.N := ⟨t.val - 1, by omega⟩
  let t0 : Fin cfg0.N := ⟨t1.val - 1, by show t.val - 1 - 1 < _; omega⟩
  have ht1 : t1.val = t.val - 1 := rfl
  have ht0 : t0.val = t.val - 1 - 1 := rfl
  have i0 := inv_A m c (Tr qr kr b n h) v t0 h r 0
    (fun k => score_eq m c qr kr hq hk t0 b n h r 0 k (by omega) (by omega) (by omega))
    (fun k d => value_eq m c t0 b h 0 k d (by omega) (by omega)) (by omega)
  have i1 := inv_BC m c (Tr qr kr b n h) v t1 h r 1
    (fun k => score_eq m c qr kr hq hk t1 b n h r 1 k (by omega) (by omega) (by omega))
    (fun k d => value_eq m c t1 b h 1 k d (by omega) (by omega)) (by omega) {0} (by decide) i0
  have i2 := inv_BC m c (Tr qr kr b n h) v t h r 2
    (fun k => score_eq m c qr kr hq hk t b n h r 2 k (by omega) (by omega) (by omega))
    (fun k d => value_eq m c t b h 2 k d (by omega) (by omega)) (by omega) {1, 0} (by decide) i1
  rw [show (insert 2 {1, 0} : Finset (Fin 3)) = Finset.univ from by decide] at i2
  refine (inv_out _ (fun j k => Sr qr kr b n h (key j k)) v _ _ _ i2 (Tr_log qr kr b n h) e).trans ?_
  have hh' : (⟨l.val / 64, by omega⟩ : Fin 4) = h := Fin.ext hh.symm
  rw [hh']
  refine Finset.sum_congr rfl fun j _ => Finset.sum_congr rfl fun k _ => congrArg _ ?_
  refine (v_host m c b (key j k) h e (by omega)).trans (congrArg _ (Fin.ext ?_))
  show e.val % 64 = l.val % 64
  omega

end

end Cert.Attn
end
-- ==== Proof.AttnRef.lean ====
module

public import proofs.«01_k».proof.Proof.Gen.ReferenceIdeal.Read
public import proofs.«01_k».proof.Proof.AttnInv
public import Idealize.ShloMosaic.Lib.Pointwise

@[expose] public section

set_option maxRecDepth 16384

noncomputable section

namespace Cert.Attn

open Idealize.ShloMosaic Cert.ReferenceIdeal Cert.ReferenceIdeal.Gen Cert.ReferenceIdeal.Read

variable (x0 : FVec Ideal S4x8192x4x96 .f32) (x1 : FVec Ideal S4x256x4x96 .f32) (x2 : FVec Ideal S4x256x4x64 .f32)
  (x3 : FVec Ideal S4x8192x4x96 .f32) (x4 : FVec Ideal S4x8192x4x64 .f32)

/-- The reference's scores. -/
theorem v4_at (b h : Fin 4) (n : Fin 8192) (k : Fin 8448) :
    val_main_v4 (F := Ideal) x0 x1 x3 (ix4 b h n k)
      = (∑ d : Fin 96, x0 (ix4 b n h d) * val_main_v0 (F := Ideal) x1 x3 (ix4 b k h d)) * Ideal.ofBits FTy.f32 1037108716#32 := by
  rw [val_main_v4_apply, val_main_v3_apply, val_main_v2_apply]
  generalize val_main_v0 (F := Ideal) x1 x3 = y
  have e1 : ∀ d : Fin 96, lidx_main_v2 (ix4 b h n k) d = ix4 b n h d := fun d => funext fun a => match a with
    | 0 => rfl
    | 1 => rfl
    | 2 => rfl
    | 3 => rfl
  have e2 : ∀ d : Fin 96, ridx_main_v2 (ix4 b h n k) d = ix4 b k h d := fun d => funext fun a => match a with
    | 0 => rfl
    | 1 => rfl
    | 2 => rfl
    | 3 => rfl
  simp only [e1, e2]
  rfl

/-- A maximum over one axis of an array of reals, from minus infinity, is real. -/
theorem reduce_max_real {s t u : Shape} {a : Fin s.rank} (x : s.Idx → EReal) (init : u.Idx → EReal) (h' : s.ReducesTo [a] t) (h : s.Reduces [a] t)
    (hu : 0 < u.numel) (j : t.Idx) (k : Fin (s.size a)) (hx : ∀ i, ∃ r : ℝ, x i = r) (hi : init (Shape.Idx.first hu) = ⊥) :
    ∃ r : ℝ, Host.reduce (FloatOps.maximumf (F := Ideal) (φ := .f32)) x init h' hu j = (r : EReal) := by
  rw [Host.reduce_eq_fold_single _ x init h' h hu j, hi]
  obtain ⟨i, _, e⟩ := Finset.exists_mem_eq_sup Finset.univ ⟨k, Finset.mem_univ k⟩ (x ∘ h.lift j)
  obtain ⟨r, hr⟩ := hx (h.lift j i)
  exact ⟨r, e.trans hr⟩

/-- The reference's largest score of a row is real if the scores are. -/
theorem v7_real (hs : ∀ i, ∃ r : ℝ, val_main_v4 (F := Ideal) x0 x1 x3 i = (r : EReal)) (j : S4x4x8192.Idx) :
    ∃ r : ℝ, val_main_v7 (F := Ideal) x0 x1 x3 j = (r : EReal) := by
  rw [val_main_v7_apply, val_main_v6_apply, val_main_cst_1_apply]
  unfold val_main_v5
  generalize val_main_v4 (F := Ideal) x0 x1 x3 = y at hs
  obtain ⟨r, hr⟩ := reduce_max_real y (val_main_cst_0 (F := Ideal)) reducesTo_S4x4x8192x8448_S4x4x8192_d3 (by decide) h_S_ j
    (⟨0, by decide⟩) hs neg_inf
  exact ⟨r, by rw [hr]; exact (congrArg (max · _) neg_inf).trans (max_eq_right bot_le)⟩

/-- The reference's exponentials. -/
theorem v11_at (b h : Fin 4) (n : Fin 8192) (k : Fin 8448) :
    val_main_v11 (F := Ideal) x0 x1 x3 (ix4 b h n k)
      = Ideal.exp (val_main_v4 (F := Ideal) x0 x1 x3 (ix4 b h n k) - val_main_v7 (F := Ideal) x0 x1 x3 (ix3 b h n)) := by
  unfold val_main_v11 val_main_v10 val_main_v9 val_main_v8
  generalize val_main_v4 (F := Ideal) x0 x1 x3 = y
  generalize val_main_v7 (F := Ideal) x0 x1 x3 = z
  pointwise

/-- The reference's weights. -/
theorem v15_at (b h : Fin 4) (n : Fin 8192) (k : Fin 8448) :
    val_main_v15 (F := Ideal) x0 x1 x3 (ix4 b h n k)
      = Ideal.div (val_main_v11 (F := Ideal) x0 x1 x3 (ix4 b h n k))
          (Ideal.ofBits FTy.f32 0#32 + ∑ k : Fin 8448, val_main_v11 (F := Ideal) x0 x1 x3 (ix4 b h n k)) := by
  unfold val_main_v15 val_main_v14 val_main_v13 val_main_v12
  generalize val_main_v11 (F := Ideal) x0 x1 x3 = y
  pointwise [val_main_cst_2]

/-- The reference's result. -/
theorem v19_at (b : Fin 4) (n : Fin 8192) (l : Fin 256) :
    val_main_v19 (F := Ideal) x0 x1 x2 x3 x4 (ix3 b n l)
      = ∑ k : Fin 8448, val_main_v1 (F := Ideal) x2 x4 (ix4 b k (⟨l.val / 64, by omega⟩ : Fin 4) (⟨l.val % 64, by omega⟩ : Fin 64))
          * val_main_v15 (F := Ideal) x0 x1 x3 (ix4 b (⟨l.val / 64, by omega⟩ : Fin 4) n k) := by
  unfold val_main_v19 val_main_v18 val_main_v17 val_main_v16
  generalize val_main_v15 (F := Ideal) x0 x1 x3 = y
  generalize val_main_v1 (F := Ideal) x2 x4 = z
  pointwise

/-- The kernel's key `k` in the reference's order, which has the context's first. -/
def rot : Fin 8448 ≃ Fin 8448 := Equiv.addRight 256

theorem rot_val (k : Fin 8448) : (rot k).val = if k.val < 8192 then k.val + 256 else k.val - 8192 := by
  show (k.val + 256) % 8448 = _
  split <;> omega

theorem v0_at (b h : Fin 4) (k : Fin 8448) (d : Fin 96) :
    val_main_v0 (F := Ideal) x1 x3 (ix4 b (rot k) h d)
      = if hn : k.val < 8192 then x3 (ix4 b ⟨k.val, hn⟩ h d) else x1 (ix4 b ⟨k.val - 8192, by omega⟩ h d) := by
  have e := rot_val k
  generalize rot k = k' at e
  pointwise [val_main_v0]
  by_cases hk : k.val < 8192
  · rw [if_pos hk] at e
    simp only [dif_neg (show ¬k'.val < 256 by omega), dif_pos hk, show k'.val - 256 = k.val by omega]
  · rw [if_neg hk] at e
    simp only [dif_pos (show k'.val < 256 by omega), dif_neg hk]
    simp only [e]

theorem v1_at (b h : Fin 4) (k : Fin 8448) (d : Fin 64) :
    val_main_v1 (F := Ideal) x2 x4 (ix4 b (rot k) h d)
      = if hn : k.val < 8192 then x4 (ix4 b ⟨k.val, hn⟩ h d) else x2 (ix4 b ⟨k.val - 8192, by omega⟩ h d) := by
  have e := rot_val k
  generalize rot k = k' at e
  pointwise [val_main_v1]
  by_cases hk : k.val < 8192
  · rw [if_pos hk] at e
    simp only [dif_neg (show ¬k'.val < 256 by omega), dif_pos hk, show k'.val - 256 = k.val by omega]
  · rw [if_neg hk] at e
    simp only [dif_pos (show k'.val < 256 by omega), dif_neg hk]
    simp only [e]

/-- A softmax of reals, computed relative to a real, is the exponentials over their sum. -/
theorem softmax_real {n : ℕ} (s : Fin (n + 1) → EReal) (S : Fin (n + 1) → ℝ) (h : ∀ k, s k = S k) (z μ : EReal) (hz : z = 0)
    (hμ : ∃ ν : ℝ, μ = ν) (k : Fin (n + 1)) :
    Ideal.div (Ideal.exp (s k - μ)) (z + ∑ k, Ideal.exp (s k - μ)) = ((Real.exp (S k) / ∑ k, Real.exp (S k) : ℝ) : EReal) := by
  obtain ⟨ν, hν⟩ := hμ
  have e : ∀ k, Ideal.exp (s k - μ) = ((Real.exp (S k) * Real.exp (-ν) : ℝ) : EReal) := fun k => by
    rw [hν, h, ← EReal.coe_sub, Ideal.exp_coe, ← Real.exp_add]
    rfl
  have hs : 0 < ∑ k, Real.exp (S k) := Finset.sum_pos (fun k _ => Real.exp_pos _) Finset.univ_nonempty
  simp only [e]
  rw [hz, zero_add, ← coe_sum, ← Finset.sum_mul, Ideal.div_coe (mul_pos hs (Real.exp_pos _)).ne', ← EReal.coe_mul]
  congr 1
  have := (Real.exp_pos (-ν)).ne'
  have := hs.ne'
  field_simp

/-- A sum over the keys, block by block. -/
theorem sum_key {α : Type} [AddCommMonoid α] (f : Fin 8448 → α) : ∑ j, ∑ k, f (key j k) = ∑ k, f k := by
  rw [← Fintype.sum_prod_type', ← Equiv.sum_comp (finProdFinEquiv (m := 3) (n := 2816)) f]
  refine Finset.sum_congr rfl fun p _ => congrArg f (Fin.ext ?_)
  show 2816 * p.1.val + p.2.val = p.2.val + 2816 * p.1.val
  omega

/-- What the reference leaves in its result, in the kernel's order of the keys. -/
theorem ref_result (qr : Fin 4 → Fin 8192 → Fin 4 → Fin 96 → ℝ) (kr : Fin 4 → Fin 8448 → Fin 4 → Fin 96 → ℝ)
    (hq : ∀ b n h d, x0 (ix4 b n h d) = qr b n h d)
    (hk : ∀ b n h d, val_main_v0 (F := Ideal) x1 x3 (ix4 b (rot n) h d) = kr b n h d) (b : Fin 4) (n : Fin 8192) (l : Fin 256) :
    val_main_v19 (F := Ideal) x0 x1 x2 x3 x4 (ix3 b n l)
      = ∑ j, ∑ k, ((Real.exp (Sr qr kr b n ⟨l.val / 64, by omega⟩ (key j k))
          / ∑ j, ∑ k, Real.exp (Sr qr kr b n ⟨l.val / 64, by omega⟩ (key j k)) : ℝ) : EReal)
        * val_main_v1 (F := Ideal) x2 x4 (ix4 b (rot (key j k)) (⟨l.val / 64, by omega⟩ : Fin 4) (⟨l.val % 64, by omega⟩ : Fin 64)) := by
  rw [v19_at, ← Equiv.sum_comp rot]
  have hs : ∀ b n h k, val_main_v4 (F := Ideal) x0 x1 x3 (ix4 b h n k) = ((Sr qr kr b n h (rot.symm k) : ℝ) : EReal) := fun b n h k => by
    obtain ⟨k', rfl⟩ := rot.surjective k
    rw [v4_at, Equiv.symm_apply_apply, Sr, cw_eq]
    simp only [hq, hk, ← EReal.coe_mul]
    rw [← coe_sum, ← EReal.coe_mul]
  have hr : ∀ i, ∃ r : ℝ, val_main_v4 (F := Ideal) x0 x1 x3 i = (r : EReal) := fun i => by
    have e : i = ix4 (i 0) (i 1) (i 2) (i 3) := funext fun a => match a with
      | 0 => rfl
      | 1 => rfl
      | 2 => rfl
      | 3 => rfl
    rw [e]
    exact ⟨_, hs (i 0) (i 2) (i 1) (i 3)⟩
  generalize (⟨l.val / 64, by omega⟩ : Fin 4) = h
  have hw : ∀ k, val_main_v15 (F := Ideal) x0 x1 x3 (ix4 b h n (rot k))
      = ((Real.exp (Sr qr kr b n h k) / ∑ k, Real.exp (Sr qr kr b n h k) : ℝ) : EReal) := fun k => by
    rw [v15_at]
    simp only [v11_at]
    rw [softmax_real (fun k => val_main_v4 (F := Ideal) x0 x1 x3 (ix4 b h n k)) (fun k => Sr qr kr b n h (rot.symm k)) (hs b n h) _ _
      (by simp [Ideal.ofBits, Ideal.ieee]) (v7_real x0 x1 x3 hr _) (rot k), Equiv.symm_apply_apply,
      Equiv.sum_comp rot.symm fun k => Real.exp (Sr qr kr b n h k)]
  simp only [hw]
  rw [sum_key fun k => Real.exp (Sr qr kr b n h k),
    sum_key fun k => ((Real.exp (Sr qr kr b n h k) / ∑ k, Real.exp (Sr qr kr b n h k) : ℝ) : EReal)
      * val_main_v1 (F := Ideal) x2 x4 (ix4 b (rot k) h (⟨l.val % 64, by omega⟩ : Fin 64))]
  exact Finset.sum_congr rfl fun k _ => mul_comm _ _

end Cert.Attn
end
-- ==== Proof.AttnFinal.lean ====
module

public import proofs.«01_k».proof.Defs
public import proofs.«01_k».proof.Proof.AttnInv
public import proofs.«01_k».proof.Proof.AttnRef
public import proofs.«01_k».proof.Proof.Gen.Pre_finite_scores
public import proofs.«01_k».proof.Proof.Gen.ReferenceIdeal.Run
public import Idealize.ShloMosaic.Lib.ReduceAll

@[expose] public section

set_option maxRecDepth 16384

noncomputable section

namespace Cert.Attn

open Idealize.ShloMosaic Idealize.ShloMosaic.TcCoe Idealize.SL.Sem

/-- An element whose absolute value is below infinity is real. -/
theorem real_of_lt {s t : Shape} (x : FVec Ideal s .f32) (dims : Fin t.rank → Fin s.rank) (hb : t.BroadcastsInDim s dims) (i : s.Idx)
    (h : cmpf .olt (Host.absf x) (broadcastInDim s dims hb (constant (F := Ideal) t .f32 0x7F800000#32)) i = 1#1) :
    @Eq EReal (x i) (((x i : EReal).toReal : ℝ) : EReal) := by
  pointwise at h
  have e : Ideal.ofBits FTy.f32 2139095040#32 = (⊤ : EReal) := by simp [Ideal.ofBits, Ideal.ieee]
  have h' : max (x i : EReal) (-(x i : EReal)) < ⊤ := by
    rw [← e]
    by_contra hn
    exact absurd ((congrArg BitVec.ofBool (decide_eq_false hn)).symm.trans h) (by decide)
  exact (EReal.coe_toReal (fun ht => by simp [ht] at h') (fun ht => by simp [ht] at h')).symm

/-- Under the precondition the queries and both arrays of keys hold real numbers. -/
theorem reals (x0 : FVec Ideal Cert.Pre_finite_scores.S4x8192x4x96 .f32) (x1 : FVec Ideal Cert.Pre_finite_scores.S4x256x4x96 .f32)
    (x2 : FVec Ideal Cert.Pre_finite_scores.S4x256x4x64 .f32) (x3 : FVec Ideal Cert.Pre_finite_scores.S4x8192x4x96 .f32)
    (x4 : FVec Ideal Cert.Pre_finite_scores.S4x8192x4x64 .f32)
    (h : Cert.Pre_finite_scores.fn (F := Ideal) x0 x1 x2 x3 x4 = fun _ => 1#1) :
    (∀ i, @Eq EReal (x0 i) (((x0 i : EReal).toReal : ℝ) : EReal)) ∧ (∀ i, @Eq EReal (x1 i) (((x1 i : EReal).toReal : ℝ) : EReal))
      ∧ ∀ i, @Eq EReal (x3 i) (((x3 i : EReal).toReal : ℝ) : EReal) := by
  have h1 := congrFun h (fun a => a.elim0)
  have : Subsingleton Cert.Pre_finite_scores.S_.Idx := ⟨fun a b => funext fun k => k.elim0⟩
  obtain ⟨h2, h5⟩ := IntOp.andi_eq_one.mp h1
  obtain ⟨h3, h4⟩ := IntOp.andi_eq_one.mp h2
  exact ⟨fun i => real_of_lt x0 _ _ i (Host.reduce_andi_all _ _ _ _ _ h3 i),
    fun i => real_of_lt x1 _ _ i (Host.reduce_andi_all _ _ _ _ _ h4 i),
    fun i => real_of_lt x3 _ _ i (Host.reduce_andi_all _ _ _ _ _ h5 i)⟩

open Cert.KernelIdeal Cert.KernelIdeal.Value in
/-- The kernel's result is the reference's function of the same arrays. -/
theorem final (m : (ℓ : Loc nD τ sig) → Buf (Elt Ideal) ℓ) (c : Dev nD) (x0 x1 x2 x3 x4)
    (e0 : x0 = m (c, Proc.tc.devRef main_arg0)) (e1 : x1 = m (c, Proc.tc.devRef main_arg1)) (e2 : x2 = m (c, Proc.tc.devRef main_arg2))
    (e3 : x3 = m (c, Proc.tc.devRef main_arg3)) (e4 : x4 = m (c, Proc.tc.devRef main_arg4))
    (hp : Cert.Pre_finite_scores.fn (F := Ideal) x0 x1 x2 x3 x4 = fun _ => 1#1) :
    G3 m c = Cert.ReferenceIdeal.Read.val_main_v19 (F := Ideal) x0 x1 x2 x3 x4 := by
  obtain ⟨r0, r1, r3⟩ := reals _ _ _ _ _ hp
  funext i
  obtain ⟨b, n, l, rfl⟩ : ∃ (b : Fin 4) (n : Fin 8192) (l : Fin 256), i = ix3 b n l := ⟨i 0, i 1, i 2, (ix3_eta i).symm⟩
  have hk : ∀ b n h d, kA m c b n h d = ((kA m c b n h d).toReal : EReal) := fun b n h d => by
    unfold kA
    split
    · rw [← e3]; exact r3 _
    · rw [← e1]; exact r1 _
  have hv0 : ∀ b n h d, Cert.ReferenceIdeal.Read.val_main_v0 (F := Ideal) x1 x3 (ix4 b (rot n) h d) = kA m c b n h d := fun b n h d => by
    rw [v0_at, e1, e3]; rfl
  have hv1 : ∀ b n h d, Cert.ReferenceIdeal.Read.val_main_v1 (F := Ideal) x2 x4 (ix4 b (rot n) h d) = vA m c b n h d := fun b n h d => by
    rw [v1_at, e2, e4]; rfl
  have hR := ref_result x0 x1 x2 x3 x4 (fun b n h d => (x0 (ix4 b n h d) : EReal).toReal) (fun b n h d => (kA m c b n h d).toReal)
    (fun b n h d => r0 _) (fun b n h d => (hv0 b n h d).trans (hk b n h d)) b n l
  have hK := result m c (fun b n h d => (x0 (ix4 b n h d) : EReal).toReal) (fun b n h d => (kA m c b n h d).toReal)
    (fun b n h d => by rw [qA, ← e0]; exact r0 _) hk b n l
  refine hK.trans (Eq.trans ?_ hR.symm)
  refine Finset.sum_congr rfl fun j _ => Finset.sum_congr rfl fun k _ => ?_
  rw [hv1]

/-- The attention: the two programs end with equal results. -/
theorem algebraic : Cert.algebraic_KernelIdeal_ReferenceIdeal_pre_finite_scores := by
  pair_intro
  · run_from Cert.KernelIdeal.Value.run m g
  · run_from Cert.ReferenceIdeal.Value.run m' g'
    obtain ⟨h0, h1, h2, h3, h4⟩ := hagree c
    refine Eq.trans ?_ (final m c _ _ _ _ _ h0 h1 h2 h3 h4 (by rw [h0, h1, h2, h3, h4]; exact hpre c)).symm
    rw [h0]
    exact Cert.ReferenceIdeal.Read.val_main_v19_eq _ _ _ _ _

end Cert.Attn
end
-- ==== Proof.MixRun.lean ====
module

public import proofs.«01_k».proof.Proof.Gen.Kernel2Ideal.Frame.Runs

/-! The run of the `mix_ffn` kernel body of `Kernel2Ideal`, from any contents of its blocks, with what it stores named. -/

@[expose] public section

set_option maxRecDepth 16384
set_option maxHeartbeats 8000000

noncomputable section

namespace Cert.Kernel2Ideal.Mix

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body stores in its output block and in its scratch buffer, with the proof that it runs to its end from any contents of its input
    blocks, leaving those blocks as they were and the stores made. -/
noncomputable def kernelRun0_A (c : Dev nD) (i : grid0.Coords) (arg2 : Memref sig .tc .vmem S1x16x256 .bf16) (harg2 : arg2.IsWhole) (arg3 : Memref sig .tc .vmem S1x512x256 .bf16) (harg3 : arg3.IsWhole) (arg4 : Memref sig .tc .vmem S1x16x256 .bf16) (harg4 : arg4.IsWhole) (arg5 : Memref sig .tc .vmem S1x16x256 .bf16) (harg5 : arg5.IsWhole) (arg6 : Memref sig .tc .vmem S1x512x256 .bf16) (harg6 : arg6.IsWhole) (arg7 : Memref sig .tc .vmem S1x16x256 .bf16) (harg7 : arg7.IsWhole) (arg8 : Memref sig .tc .vmem S1x16x256 .bf16) (harg8 : arg8.IsWhole) (arg9 : Memref sig .tc .vmem S1x512x256 .bf16) (harg9 : arg9.IsWhole) (arg10 : Memref sig .tc .vmem S1x16x256 .bf16) (harg10 : arg10.IsWhole) (arg11 : Memref sig .tc .vmem S1x16x256 .bf16) (harg11 : arg11.IsWhole) (arg12 : Memref sig .tc .vmem S1x512x256 .bf16) (harg12 : arg12.IsWhole) (arg13 : Memref sig .tc .vmem S1x16x256 .bf16) (harg13 : arg13.IsWhole) (arg14 : Memref sig .tc .vmem S1x16x1024 .f32) (harg14 : arg14.IsWhole) (arg15 : Memref sig .tc .vmem S1x512x1024 .f32) (harg15 : arg15.IsWhole) (arg16 : Memref sig .tc .vmem S1x16x1024 .f32) (harg16 : arg16.IsWhole) (arg17 : Memref sig .tc .vmem S1x1024x1024 .bf16) (harg17 : arg17.IsWhole) (arg18 : Memref sig .tc .vmem S1x1x1024 .f32) (harg18 : arg18.IsWhole) (arg19 : Memref sig .tc .vmem S1x1x1x1024 .f32) (harg19 : arg19.IsWhole) (arg20 : Memref sig .tc .vmem S1x1x1024 .f32) (harg20 : arg20.IsWhole) (arg21 : Memref sig .tc .vmem S1x1x1x1024 .f32) (harg21 : arg21.IsWhole) (arg22 : Memref sig .tc .vmem S1x1x1x1024 .f32) (harg22 : arg22.IsWhole) (arg23 : Memref sig .tc .vmem S1x1024x5632 .bf16) (harg23 : arg23.IsWhole) (arg24 : Memref sig .tc .vmem S1x3x5632 .f32) (harg24 : arg24.IsWhole) (arg25 : Memref sig .tc .vmem S1x1x5632 .f32) (harg25 : arg25.IsWhole) (arg26 : Memref sig .tc .vmem S1x2816x1024 .bf16) (harg26 : arg26.IsWhole) (arg27 : Memref sig .tc .vmem S1x1x1024 .f32) (harg27 : arg27.IsWhole) (arg28 : Memref sig .tc .vmem S1x1x1x1024 .f32) (harg28 : arg28.IsWhole) (arg29 : Memref sig .tc .vmem S1x512x1024 .f32) (harg29 : arg29.IsWhole) (arg30 : Memref sig .tc .vmem S512x2816 .bf16) (harg30 : arg30.IsWhole)
    (x0 : Vec F S1x16x256 .bf16) (x1 : Vec F S1x512x256 .bf16) (x2 : Vec F S1x16x256 .bf16) (x3 : Vec F S1x16x256 .bf16) (x4 : Vec F S1x512x256 .bf16) (x5 : Vec F S1x16x256 .bf16) (x6 : Vec F S1x16x256 .bf16) (x7 : Vec F S1x512x256 .bf16) (x8 : Vec F S1x16x256 .bf16) (x9 : Vec F S1x16x256 .bf16) (x10 : Vec F S1x512x256 .bf16) (x11 : Vec F S1x16x256 .bf16) (x12 : Vec F S1x16x1024 .f32) (x13 : Vec F S1x512x1024 .f32) (x14 : Vec F S1x16x1024 .f32) (x15 : Vec F S1x1024x1024 .bf16) (x16 : Vec F S1x1x1024 .f32) (x17 : Vec F S1x1x1x1024 .f32) (x18 : Vec F S1x1x1024 .f32) (x19 : Vec F S1x1x1x1024 .f32) (x20 : Vec F S1x1x1x1024 .f32) (x21 : Vec F S1x1024x5632 .bf16) (x22 : Vec F S1x3x5632 .f32) (x23 : Vec F S1x1x5632 .f32) (x24 : Vec F S1x2816x1024 .bf16) (x25 : Vec F S1x1x1024 .f32) (x26 : Vec F S1x1x1x1024 .f32) :
    Σ' (L27 : List (View.Piece (Elt F) S1x512x1024 .f32)), { LT0 : List (View.Piece (Elt F) S512x2816 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ (∃ d, owns (c : Thread nD τ) arg29 fullShare d) ∗ (∃ d, owns (c : Thread nD τ) arg30 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f LT0)) -∗ K ⟨⟩))
          ⊢ wp frame (wpE (defs₀ (F := F)) Variants.none c none) E (cc0_mix_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) K } := by
  refine ⟨?_, ?_, fun E K => ?run⟩
  case run =>
    simp only [cc0_mix_ffn_eq_skeleton]; unfold cc0_mix_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]; · iexists _; iexact H27
    iexists _; iexact HS0

end Cert.Kernel2Ideal.Mix

end
-- ==== Proof.MixFrame.lean ====
module

public import proofs.«01_k».proof.Proof.MixRun
public import Idealize.ShloMosaic.Lib.Claim

/-! The frame of `Kernel2Ideal`: what its pipeline leaves, its body at every grid point, and the launch. -/

@[expose] public section

set_option maxRecDepth 16384
set_option maxHeartbeats 8000000

noncomputable section

namespace Cert.Kernel2Ideal.Mix

open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The one store of the body covers the whole output block. -/
theorem cover0_A_27 (c : Dev nD) (i : grid0.Coords) (arg2 : Memref sig .tc .vmem S1x16x256 .bf16) (harg2 : arg2.IsWhole) (arg3 : Memref sig .tc .vmem S1x512x256 .bf16) (harg3 : arg3.IsWhole) (arg4 : Memref sig .tc .vmem S1x16x256 .bf16) (harg4 : arg4.IsWhole) (arg5 : Memref sig .tc .vmem S1x16x256 .bf16) (harg5 : arg5.IsWhole) (arg6 : Memref sig .tc .vmem S1x512x256 .bf16) (harg6 : arg6.IsWhole) (arg7 : Memref sig .tc .vmem S1x16x256 .bf16) (harg7 : arg7.IsWhole) (arg8 : Memref sig .tc .vmem S1x16x256 .bf16) (harg8 : arg8.IsWhole) (arg9 : Memref sig .tc .vmem S1x512x256 .bf16) (harg9 : arg9.IsWhole) (arg10 : Memref sig .tc .vmem S1x16x256 .bf16) (harg10 : arg10.IsWhole) (arg11 : Memref sig .tc .vmem S1x16x256 .bf16) (harg11 : arg11.IsWhole) (arg12 : Memref sig .tc .vmem S1x512x256 .bf16) (harg12 : arg12.IsWhole) (arg13 : Memref sig .tc .vmem S1x16x256 .bf16) (harg13 : arg13.IsWhole) (arg14 : Memref sig .tc .vmem S1x16x1024 .f32) (harg14 : arg14.IsWhole) (arg15 : Memref sig .tc .vmem S1x512x1024 .f32) (harg15 : arg15.IsWhole) (arg16 : Memref sig .tc .vmem S1x16x1024 .f32) (harg16 : arg16.IsWhole) (arg17 : Memref sig .tc .vmem S1x1024x1024 .bf16) (harg17 : arg17.IsWhole) (arg18 : Memref sig .tc .vmem S1x1x1024 .f32) (harg18 : arg18.IsWhole) (arg19 : Memref sig .tc .vmem S1x1x1x1024 .f32) (harg19 : arg19.IsWhole) (arg20 : Memref sig .tc .vmem S1x1x1024 .f32) (harg20 : arg20.IsWhole) (arg21 : Memref sig .tc .vmem S1x1x1x1024 .f32) (harg21 : arg21.IsWhole) (arg22 : Memref sig .tc .vmem S1x1x1x1024 .f32) (harg22 : arg22.IsWhole) (arg23 : Memref sig .tc .vmem S1x1024x5632 .bf16) (harg23 : arg23.IsWhole) (arg24 : Memref sig .tc .vmem S1x3x5632 .f32) (harg24 : arg24.IsWhole) (arg25 : Memref sig .tc .vmem S1x1x5632 .f32) (harg25 : arg25.IsWhole) (arg26 : Memref sig .tc .vmem S1x2816x1024 .bf16) (harg26 : arg26.IsWhole) (arg27 : Memref sig .tc .vmem S1x1x1024 .f32) (harg27 : arg27.IsWhole) (arg28 : Memref sig .tc .vmem S1x1x1x1024 .f32) (harg28 : arg28.IsWhole) (arg29 : Memref sig .tc .vmem S1x512x1024 .f32) (harg29 : arg29.IsWhole) (arg30 : Memref sig .tc .vmem S512x2816 .bf16) (harg30 : arg30.IsWhole)
    (x0 : Vec F S1x16x256 .bf16) (x1 : Vec F S1x512x256 .bf16) (x2 : Vec F S1x16x256 .bf16) (x3 : Vec F S1x16x256 .bf16) (x4 : Vec F S1x512x256 .bf16) (x5 : Vec F S1x16x256 .bf16) (x6 : Vec F S1x16x256 .bf16) (x7 : Vec F S1x512x256 .bf16) (x8 : Vec F S1x16x256 .bf16) (x9 : Vec F S1x16x256 .bf16) (x10 : Vec F S1x512x256 .bf16) (x11 : Vec F S1x16x256 .bf16) (x12 : Vec F S1x16x1024 .f32) (x13 : Vec F S1x512x1024 .f32) (x14 : Vec F S1x16x1024 .f32) (x15 : Vec F S1x1024x1024 .bf16) (x16 : Vec F S1x1x1024 .f32) (x17 : Vec F S1x1x1x1024 .f32) (x18 : Vec F S1x1x1024 .f32) (x19 : Vec F S1x1x1x1024 .f32) (x20 : Vec F S1x1x1x1024 .f32) (x21 : Vec F S1x1024x5632 .bf16) (x22 : Vec F S1x3x5632 .f32) (x23 : Vec F S1x1x5632 .f32) (x24 : Vec F S1x2816x1024 .bf16) (x25 : Vec F S1x1x1024 .f32) (x26 : Vec F S1x1x1x1024 .f32) (y : S1x512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26).1 S1x512x1024.size (by sl_kernel_rfl) y

/-- What the body leaves in the output block. -/
def out0_A_27 (c : Dev nD) (i : grid0.Coords) (arg2 : Memref sig .tc .vmem S1x16x256 .bf16) (harg2 : arg2.IsWhole) (arg3 : Memref sig .tc .vmem S1x512x256 .bf16) (harg3 : arg3.IsWhole) (arg4 : Memref sig .tc .vmem S1x16x256 .bf16) (harg4 : arg4.IsWhole) (arg5 : Memref sig .tc .vmem S1x16x256 .bf16) (harg5 : arg5.IsWhole) (arg6 : Memref sig .tc .vmem S1x512x256 .bf16) (harg6 : arg6.IsWhole) (arg7 : Memref sig .tc .vmem S1x16x256 .bf16) (harg7 : arg7.IsWhole) (arg8 : Memref sig .tc .vmem S1x16x256 .bf16) (harg8 : arg8.IsWhole) (arg9 : Memref sig .tc .vmem S1x512x256 .bf16) (harg9 : arg9.IsWhole) (arg10 : Memref sig .tc .vmem S1x16x256 .bf16) (harg10 : arg10.IsWhole) (arg11 : Memref sig .tc .vmem S1x16x256 .bf16) (harg11 : arg11.IsWhole) (arg12 : Memref sig .tc .vmem S1x512x256 .bf16) (harg12 : arg12.IsWhole) (arg13 : Memref sig .tc .vmem S1x16x256 .bf16) (harg13 : arg13.IsWhole) (arg14 : Memref sig .tc .vmem S1x16x1024 .f32) (harg14 : arg14.IsWhole) (arg15 : Memref sig .tc .vmem S1x512x1024 .f32) (harg15 : arg15.IsWhole) (arg16 : Memref sig .tc .vmem S1x16x1024 .f32) (harg16 : arg16.IsWhole) (arg17 : Memref sig .tc .vmem S1x1024x1024 .bf16) (harg17 : arg17.IsWhole) (arg18 : Memref sig .tc .vmem S1x1x1024 .f32) (harg18 : arg18.IsWhole) (arg19 : Memref sig .tc .vmem S1x1x1x1024 .f32) (harg19 : arg19.IsWhole) (arg20 : Memref sig .tc .vmem S1x1x1024 .f32) (harg20 : arg20.IsWhole) (arg21 : Memref sig .tc .vmem S1x1x1x1024 .f32) (harg21 : arg21.IsWhole) (arg22 : Memref sig .tc .vmem S1x1x1x1024 .f32) (harg22 : arg22.IsWhole) (arg23 : Memref sig .tc .vmem S1x1024x5632 .bf16) (harg23 : arg23.IsWhole) (arg24 : Memref sig .tc .vmem S1x3x5632 .f32) (harg24 : arg24.IsWhole) (arg25 : Memref sig .tc .vmem S1x1x5632 .f32) (harg25 : arg25.IsWhole) (arg26 : Memref sig .tc .vmem S1x2816x1024 .bf16) (harg26 : arg26.IsWhole) (arg27 : Memref sig .tc .vmem S1x1x1024 .f32) (harg27 : arg27.IsWhole) (arg28 : Memref sig .tc .vmem S1x1x1x1024 .f32) (harg28 : arg28.IsWhole) (arg29 : Memref sig .tc .vmem S1x512x1024 .f32) (harg29 : arg29.IsWhole) (arg30 : Memref sig .tc .vmem S512x2816 .bf16) (harg30 : arg30.IsWhole)
    (x0 : Vec F S1x16x256 .bf16) (x1 : Vec F S1x512x256 .bf16) (x2 : Vec F S1x16x256 .bf16) (x3 : Vec F S1x16x256 .bf16) (x4 : Vec F S1x512x256 .bf16) (x5 : Vec F S1x16x256 .bf16) (x6 : Vec F S1x16x256 .bf16) (x7 : Vec F S1x512x256 .bf16) (x8 : Vec F S1x16x256 .bf16) (x9 : Vec F S1x16x256 .bf16) (x10 : Vec F S1x512x256 .bf16) (x11 : Vec F S1x16x256 .bf16) (x12 : Vec F S1x16x1024 .f32) (x13 : Vec F S1x512x1024 .f32) (x14 : Vec F S1x16x1024 .f32) (x15 : Vec F S1x1024x1024 .bf16) (x16 : Vec F S1x1x1024 .f32) (x17 : Vec F S1x1x1x1024 .f32) (x18 : Vec F S1x1x1024 .f32) (x19 : Vec F S1x1x1x1024 .f32) (x20 : Vec F S1x1x1x1024 .f32) (x21 : Vec F S1x1024x5632 .bf16) (x22 : Vec F S1x3x5632 .f32) (x23 : Vec F S1x1x5632 .f32) (x24 : Vec F S1x2816x1024 .bf16) (x25 : Vec F S1x1x1024 .f32) (x26 : Vec F S1x1x1x1024 .f32) : Vec F S1x512x1024 .f32 :=
  VO0_27.read (Elt F) (VO0_27.writes (Elt F) VO0_27.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26).1)

/-! ## What the outputs hold after each point -/

/-- What the output's buffer holds after a grid point. -/
def outsAt0 (c : Dev nD) (t : Fin cfg0.N) : Vec F S1x512x1024 .f32 :=
  out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)

/-! ## The pipeline -/

/-- The pipeline on a core: the arrays as the host code leaves them, and after each grid point every input's buffer at its block, the arrays
    that several windows read being shared among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => (outsAt0 m c t)
    | ⟨_ + 28, h⟩ => absurd h (Nat.not_lt.2 (Nat.le_add_left _ _))
  Φ _ := Pipeline.ΦA spec0 c
  q w := Pipeline.shareOf spec0 w
  owed _ := 0

/-- The pipeline's arrays are what the host code leaves in them. -/
theorem A_eq (c : Dev nD) (w : Fin cfg0.W) : (dats m 0 c).A w = V m c (Pipeline.arrRef spec0 w) := by
  dsimp only [dats]

/-- What each buffer holds after a grid point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = (outsAt0 m c t) := by dsimp only [dats]

/-- Each input's buffer holds its block when a grid point begins. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d

/-! ## The body at a grid point -/

/-- What the body is given at a grid point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

/-- The body at a grid point: its inputs' buffers hold their blocks, so the run above applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  rw [show (dats m 0 c).Φ t.castSucc = Pipeline.ΦA spec0 c from rfl, PhiA0_eq]
  unfold outsAt0
  unfold out0_A_27
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [HS0]; · iexact HS0
  iintro ⟨H0, H1, H2, H3, H4, H5, H6, H7, H8, H9, H10, H11, H12, H13, H14, H15, H16, H17, H18, H19, H20, H21, H22, H23, H24, H25, H26, ⟨%e27, H27⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  unfold owns; iexists _; isplitr
  swap; · iexact H27
  ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that is called at a grid point. -/
theorem defs₀_row (t : Fin cfg0.N) :
    defs₀ (F := F) .tc cfg0.body (cfg0.bodyArgs t (cfg0.slots t)) = bodyAt0 t := by
  unfold defs₀; rw [Defs.onTc_tc]

/-- The body does at every grid point what the pipeline asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to its end, leaves the pipeline's arrays as stated above and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The program runs to its end, leaves its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel2Ideal.Mix

end
-- ==== Proof.MixValue.lean ====
module

public import proofs.«01_k».proof.Proof.MixFrame
public import Idealize.ShloMosaic.Lib.Pipeline.Value

/-! The result array of `Kernel2Ideal` after its run, block by block. -/

@[expose] public section

noncomputable section

namespace Cert.Kernel2Ideal.MixValue

open Cert.Kernel2Ideal.Mix

open Cert.Kernel2Ideal Cert.Kernel2Ideal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## What each grid point writes back, and the result array block by block -/

/-- What a grid point writes back to the result array. -/
theorem flushed27 (c : Dev nD) (t : Fin cfg0.N) :
    (dats m 0 c).flushed 27 t = (cfg0.win 27).cut (grid0.coords t) (outsAt0 m c t) := by
  show (cfg0.win 27).cut (grid0.coords t) ((dats m 0 c).after 27 t) = _
  rw [after0_27]

/-- The same, as what the body leaves in the output block from the blocks of the inputs. -/
theorem flushed27_A (c : Dev nD) (t : Fin cfg0.N) :
    (dats m 0 c).flushed 27 t = (cfg0.win 27).cut (grid0.coords t) (out0_A_27 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t)) := by
  simp only [flushed27, outsAt0]

/-- Distinct grid points write distinct blocks. -/
theorem idx_inj27 : ∀ t t' : Fin cfg0.N, win0_27.index t = win0_27.index t' → t = t' :=
  (by decide +kernel : ∀ t t' : Fin grid0.N, win0_27.index t = win0_27.index t' → t = t')

/-- So two grid points' blocks share no element. -/
theorem disjoint27 : ∀ t t' : Fin cfg0.N, (cfg0.win 27).flush t = true → (cfg0.win 27).flush t' = true → t ≠ t' →
    Disjoint ((cfg0.win 27).blk t).view.set ((cfg0.win 27).blk t').view.set :=
  fun t t' _ _ hne => (cfg0.win 27).disjoint_blk fun h => hne (idx_inj27 t t' h)

/-- A block of the result array is what its grid point wrote back. -/
theorem blocks27 (c : Dev nD) (t : Fin cfg0.N) (hf : (cfg0.win 27).flush t = true) :
    ((cfg0.win 27).blk t).view.read (Elt F) ((dats m 0 c).arrAt 27 cfg0.N) = (dats m 0 c).flushed 27 t :=
  (dats m 0 c).read_blk_arrAt_eq_flushed 27 disjoint27 cfg0.N t t.isLt hf

/-- An element that no grid point's block covers is as the host code left it. -/
theorem entry27 (c : Dev nD) (i : S4x8192x1024.Idx) (h : ∀ t : Fin cfg0.N, (cfg0.win 27).flush t = true → i ∉ ((cfg0.win 27).blk t).view.set) :
    (dats m 0 c).arrAt 27 cfg0.N i = V m c (Pipeline.arrRef spec0 27) i := by
  rw [(dats m 0 c).arrAt_apply_of_forall_not_mem 27 cfg0.N i (fun t _ hf => h t hf), A_eq]

/-- The result array after the run. -/
theorem post27 (r : PUnit × MemSt nD τ sig (Elt F)) (h : Pipeline.FramePost cfgs (dats m) 0 (V m) r) (c : Dev nD) :
    r.2.mem ((c : Thread nD τ).loc main_v23) = (dats m 0 c).arrAt 27 cfg0.N :=
  (h c).1 27

/-- Argument `main_arg0` ends unchanged. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument `main_arg1` ends unchanged. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument `main_arg2` ends unchanged. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument `main_arg3` ends unchanged. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument `main_arg4` ends unchanged. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 14).trans (((dats m 0 c).arrAt_in 14 rfl _).trans ((A_eq m c 14).trans (V_main_arg4 m c)))

/-- Argument `main_arg5` ends unchanged. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- Argument `main_arg6` ends unchanged. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- Argument `main_arg7` ends unchanged. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- Argument `main_arg8` ends unchanged. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- Argument `main_arg9` ends unchanged. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- Argument `main_arg10` ends unchanged. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- Argument `main_arg11` ends unchanged. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- Argument `main_arg12` ends unchanged. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- Argument `main_arg13` ends unchanged. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- The program runs to its end with the result array named and the arguments unchanged. -/
theorem run_blocks : θ_run defs (onTc (τ := τ) (main (F := F))) ⟨m, fun _ => 0, ρ⟩ fun r => ∀ c : Dev nD,
      r.2.mem ((c : Thread nD τ).loc main_v23) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post27 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.Kernel2Ideal.MixValue

end
-- ==== Proof.MixMath.lean ====
module

public import Idealize.ShloMosaic.Lib.Pipeline.ValueKit
public import Idealize.ShloMosaic.Lib.Pointwise

/-! The layer's end as functions of rows, over the extended reals, and the two identities that part the kernel's writing from the reference's. -/

@[expose] public section

set_option maxRecDepth 16384

noncomputable section

namespace Cert.Mix

open Idealize.ShloMosaic

/-- A row over its root mean square. -/
def rms (v : Fin 1024 → EReal) (e : Fin 1024) : EReal :=
  v e * Ideal.rsqrt (Ideal.div (∑ k, v k * v k) (Ideal.ofBits FTy.f32 0x44800000#32) + Ideal.ofBits FTy.f32 0x358637BD#32)

/-- A row after the gated, normalised residual. -/
def resid (x gt v g : Fin 1024 → EReal) (e : Fin 1024) : EReal := x e + gt e * (rms v e * g e)

/-- A row normalised, scaled and shifted. -/
def modul (v g sc sh : Fin 1024 → EReal) (e : Fin 1024) : EReal :=
  rms v e * g e * (Ideal.ofBits FTy.f32 0x3F800000#32 + sc e) + sh e

/-- The three-tap convolution at a position, from its neighbours. -/
def conv (w : Fin 3 → EReal) (b : EReal) (z : Fin 3 → EReal) : EReal := b + w 0 * z 0 + w 1 * z 1 + w 2 * z 2

/-- The gated gelu as the kernel writes it: the gate is halved beforehand. -/
def gateK (κ a g : EReal) : EReal :=
  a * g * (Ideal.ofBits FTy.f32 0x3F800000#32
    + Ideal.tanh (a * (Ideal.ofBits FTy.f32 0x3F4C422A#32 + κ * (a * a))))

/-- The gated gelu as the reference writes it. -/
def gateR (a g : EReal) : EReal :=
  a * (Ideal.ofBits FTy.f32 0x3F000000#32 * (Ideal.ofBits FTy.f32 0x3F800000#32
    + Ideal.tanh (Ideal.ofBits FTy.f32 0x3F4C422A#32 * (a + Ideal.ofBits FTy.f32 0x3D372713#32 * (a * a * a))))) * g

theorem half_word : Ideal.ofBits FTy.f32 0x3F000000#32 = ((1 / 2 : ℝ) : EReal) := by
  simp [Ideal.ofBits, Ideal.ieee]; rw [← EReal.coe_mul]; norm_num

theorem one_word : Ideal.ofBits FTy.f32 0x3F800000#32 = 1 := by
  simp [Ideal.ofBits, Ideal.ieee]; rw [← EReal.coe_mul]; norm_num

theorem lin_word : Ideal.ofBits FTy.f32 0x3F4C422A#32 = ((13386282 / 16777216 : ℝ) : EReal) := by
  simp [Ideal.ofBits, Ideal.ieee]; rw [← EReal.coe_mul]; norm_num

theorem cub_word : Ideal.ofBits FTy.f32 0x3D372713#32 = ((12003091 / 268435456 : ℝ) : EReal) := by
  simp [Ideal.ofBits, Ideal.ieee]; rw [← EReal.coe_mul]; norm_num

theorem zero_word : Ideal.ofBits FTy.f32 0x00000000#32 = 0 := by
  simp [Ideal.ofBits, Ideal.ieee]

/-- A positive real distributes over sums of extended reals. -/
theorem mul_add_coe {c : ℝ} (hc : 0 < c) (a b : EReal) : (c : EReal) * (a + b) = c * a + c * b :=
  EReal.left_distrib_of_nonneg_of_ne_top (by exact_mod_cast hc.le) (EReal.coe_ne_top c) a b

/-- Halving a convolution's weights and bias halves the convolution. -/
theorem conv_half (w : Fin 3 → EReal) (b : EReal) (z : Fin 3 → EReal) {c : ℝ} (hc : 0 < c) :
    conv (fun t => w t * c) (b * c) z = c * conv w b z := by
  simp only [conv, mul_add_coe hc]
  simp only [mul_comm, mul_left_comm, mul_assoc]

/-- The two arguments of the hyperbolic tangent agree when the folded constant is the product of the two. -/
theorem tanh_arg (a : EReal) {p q : ℝ} (hp : 0 < p) (hq : 0 < q) :
    a * ((p : EReal) + ((p * q : ℝ) : EReal) * (a * a)) = p * (a + q * (a * a * a)) := by
  have hpq : 0 < p * q := mul_pos hp hq
  induction a with
  | bot =>
    rw [EReal.bot_mul_bot, EReal.coe_mul_top_of_pos hpq, EReal.coe_add_top, EReal.bot_mul_top, EReal.top_mul_bot,
      EReal.coe_mul_bot_of_pos hq, EReal.bot_add, EReal.coe_mul_bot_of_pos hp]
  | coe a => norm_cast; ring
  | top =>
    rw [EReal.top_mul_top, EReal.coe_mul_top_of_pos hpq, EReal.coe_add_top, EReal.top_mul_top,
      EReal.coe_mul_top_of_pos hq, EReal.top_add_top, EReal.coe_mul_top_of_pos hp]

/-- So the two gates agree. -/
theorem gate_eq (a g κ : EReal) (hκ : κ = (((13386282 / 16777216) * (12003091 / 268435456) : ℝ) : EReal)) :
    gateK κ a (((1 / 2 : ℝ) : EReal) * g) = gateR a g := by
  unfold gateK gateR
  rw [hκ, lin_word, cub_word, half_word, tanh_arg a (by norm_num) (by norm_num)]
  simp only [mul_comm, mul_left_comm, mul_assoc]

/-- A sum over 1024 lanes as four sums over 256. -/
theorem sum_four (f : Fin 1024 → EReal) :
    ∑ k, f k = (∑ k : Fin 256, f ⟨k, by omega⟩) + (∑ k : Fin 256, f ⟨256 + k, by omega⟩)
      + (∑ k : Fin 256, f ⟨512 + k, by omega⟩) + ∑ k : Fin 256, f ⟨768 + k, by omega⟩ := by
  have h := Fin.sum_univ_add (a := 768) (b := 256) (f := f)
  have h1 := Fin.sum_univ_add (a := 512) (b := 256) (f := fun i => f (Fin.castAdd 256 i))
  have h2 := Fin.sum_univ_add (a := 256) (b := 256) (f := fun i => f (Fin.castAdd 256 (Fin.castAdd 256 i)))
  exact h.trans (congrArg₂ (· + ·) (h1.trans (congrArg₂ (· + ·) h2 rfl)) rfl)

end Cert.Mix
end
-- ==== Proof.MixPay.lean ====
module

public import proofs.«01_k».proof.Proof.Gen.Kernel2Ideal.Skeleton
public import proofs.«01_k».proof.Proof.MixMath
public import Idealize.ShloMosaic.Lib.WordCmp

/-! What the kernel's arithmetic gives at an index. -/

@[expose] public section

set_option maxRecDepth 16384

noncomputable section

namespace Cert.Mix

open Idealize.ShloMosaic Cert.Kernel2Ideal Cert.Kernel2Ideal.Gen

/-- A block of 512 rows with eight rows of its neighbours on each side. -/
def ext {C : ℕ} (p : (⟨3, ![1, 16, C]⟩ : Shape).Idx → EReal) (x : (⟨3, ![1, 512, C]⟩ : Shape).Idx → EReal)
    (n : (⟨3, ![1, 16, C]⟩ : Shape).Idx → EReal) (r : Fin 528) (k : Fin C) : EReal :=
  if h : r.val < 8 then p (ix3 0 ⟨8 + r.val, by omega⟩ k)
  else if h2 : r.val - 8 < 512 then x (ix3 0 ⟨r.val - 8, by omega⟩ k)
  else n (ix3 0 ⟨r.val - 8 - 512, by omega⟩ k)

/-- The mixers' output projection, a row of the extended block. -/
theorem pay1_at (p0 : FVec Ideal S1x16x256 .bf16) (x0 : FVec Ideal S1x512x256 .bf16) (n0 : FVec Ideal S1x16x256 .bf16)
    (w0 : FVec Ideal S1x256x1024 .bf16) (p1 : FVec Ideal S1x16x256 .bf16) (x1 : FVec Ideal S1x512x256 .bf16)
    (n1 : FVec Ideal S1x16x256 .bf16) (w1 : FVec Ideal S1x256x1024 .bf16) (r : Fin 528) (e : Fin 1024) :
    k0_pay1 (F := Ideal) p0 x0 n0 w0 p1 x1 n1 w1 (ix2 r e)
      = (∑ k, ext p0 x0 n0 r k * w0 (ix3 0 k e)) + ∑ k, ext p1 x1 n1 r k * w1 (ix3 0 k e) := by
  pointwise [k0_pay1, ext]

/-- The four groups' projections together. -/
theorem pay3_at (M : FVec Ideal S528x1024 .f32) (p2 : FVec Ideal S1x16x256 .bf16) (x2 : FVec Ideal S1x512x256 .bf16)
    (n2 : FVec Ideal S1x16x256 .bf16) (w2 : FVec Ideal S1x256x1024 .bf16) (p3 : FVec Ideal S1x16x256 .bf16)
    (x3 : FVec Ideal S1x512x256 .bf16) (n3 : FVec Ideal S1x16x256 .bf16) (w3 : FVec Ideal S1x256x1024 .bf16) (r : Fin 528) (e : Fin 1024) :
    k0_pay3 (F := Ideal) M (k0_pay2 p2) x2 n2 w2 p3 x3 n3 w3 (ix2 r e)
      = M (ix2 r e) + (∑ k, ext p2 x2 n2 r k * w2 (ix3 0 k e)) + ∑ k, ext p3 x3 n3 r k * w3 (ix3 0 k e) := by
  pointwise [k0_pay3, k0_pay2, ext]

/-- The residual after the mixers, a row of the extended block. -/
theorem pay6_at (M : FVec Ideal S528x1024 .f32) (p : FVec Ideal S1x16x1024 .f32) (x : FVec Ideal S1x512x1024 .f32)
    (n : FVec Ideal S1x16x1024 .f32) (gt : FVec Ideal S1x1x1x1024 .f32) (g : FVec Ideal S1x1x1024 .f32) (r : Fin 528) (e : Fin 1024) :
    k0_pay6 (F := Ideal) M (k0_pay4 p) (k0_pay5 x) n gt g (ix2 r e)
      = resid (ext p x n r) (fun e => gt (ix4 0 0 0 e)) (fun e => M (ix2 r e)) (fun e => g (ix3 0 0 e)) e := by
  pointwise [k0_pay6, k0_pay4, k0_pay5, ext, resid, rms]

/-- The row normalised once more. -/
theorem pay7_at (M : FVec Ideal S528x1024 .f32) (p : FVec Ideal S8x1024 .f32) (x : FVec Ideal S512x1024 .f32)
    (n : FVec Ideal S1x16x1024 .f32) (gt : FVec Ideal S1x1x1x1024 .f32) (g g' : FVec Ideal S1x1x1024 .f32) (r : Fin 528) (e : Fin 1024) :
    k0_pay7 (F := Ideal) M p x n gt g g' (ix2 r e)
      = rms (fun e => k0_pay6 (F := Ideal) M p x n gt g (ix2 r e)) e * g' (ix3 0 0 e) := by
  unfold k0_pay7
  generalize k0_pay6 (F := Ideal) M p x n gt g = X
  pointwise [rms]

/-- The up projection of 256 columns. -/
theorem pay21_at (B : FVec Ideal S528x1024 .bf16) (w : FVec Ideal S1x1024x256 .bf16) (r : Fin 528) (l : Fin 256) :
    k0_pay21 (F := Ideal) B w (ix2 r l) = ∑ e, B (ix2 r e) * w (ix3 0 e l) := by
  pointwise [k0_pay21]

/-- The convolution of 256 columns. -/
theorem pay16_at (Z : FVec Ideal S528x256 .f32) (w : FVec Ideal S1x3x256 .f32) (b : FVec Ideal S1x1x256 .f32) (q : Fin 512) (l : Fin 256) :
    k0_pay16 (F := Ideal) Z w b (ix2 q l)
      = conv (fun t => w (ix3 0 t l)) (b (ix3 0 0 l)) (fun t => Z (ix2 ⟨q.val + 7 + t.val, by omega⟩ l)) := by
  pointwise [k0_pay16, conv]
  have h1 : 8 + q.val = q.val + 7 + 1 := by omega
  have h0 : (q.val + 7 + 1 + 528 - 1) % 528 = q.val + 7 := by omega
  have h2 : (q.val + 7 + 1 + 528 - 527) % 528 = q.val + 7 + 2 := by omega
  simp only [h1, h0, h2]

/-- The modulated rows, zero outside the sequence. -/
theorem pay10_at (i : Fin 16) (h : FVec Ideal S528x1024 .f32) (sc : FVec Ideal S1x1x1x1024 .f32) (sh : FVec Ideal S1x1x1x1024 .f32)
    (r : Fin 528) (e : Fin 1024) :
    k0_pay10 (F := Ideal) (BitVec.ofNat 32 i.val) h (k0_pay8 sc) k0_pay9 sh (ix2 r e)
      = if (i.val = 0 ∧ r.val < 8) ∨ (i.val = 15 ∧ 520 ≤ r.val) then 0
        else h (ix2 r e) * (Ideal.ofBits FTy.f32 0x3F800000#32 + sc (ix4 0 0 0 e)) + sh (ix4 0 0 0 e) := by
  pointwise [k0_pay10, k0_pay8, k0_pay9]
  have hi : ∀ k : ℕ, k < 16 → Scalar.cmpi CmpIPredicate.eq (BitVec.ofNat 32 i.val) (BitVec.ofNat 32 k) = BitVec.ofBool (decide (i.val = k)) :=
    fun k hk => (WordCmp.cmpi_eq_eq _ _).trans (by
      simp only [WordCmp.ofNat_eq_ofNat_iff (w := 32) (a := i.val) (b := k) (by omega) (by omega)])
  have hr : r.val < 528 := r.isLt
  rw [hi 0 (by omega), hi 15 (by omega), WordCmp.cmpi_slt_ofNat (by omega) (by omega), WordCmp.cmpi_sge_ofNat (by omega) (by omega),
    WordCmp.andi_ofBool, WordCmp.andi_ofBool, WordCmp.ori_ofBool, WordCmp.select_ofBool]
  simp only [Bool.or_eq_true, Bool.and_eq_true, decide_eq_true_eq]

/-- The gate of 256 columns. -/
theorem gate_at (a g : FVec Ideal S512x256 .f32) (q : Fin 512) (l : Fin 256) :
    k0_pay20 (F := Ideal) a g (mulf a a) k0_pay19 (ix2 q l)
      = gateK (((13386282 / 16777216) * (12003091 / 268435456) : ℝ) : EReal) (a (ix2 q l)) (g (ix2 q l)) := by
  pointwise [k0_pay20, k0_pay19, gateK]
  have hk : (Named.named κ "sqrt_2_pi_cubic" (1024598649#32 : BitVec (FTy.bits .f32)) : Ideal .f32)
      = (((13386282 / 16777216) * (12003091 / 268435456) : ℝ) : EReal) := by
    show (κ "sqrt_2_pi_cubic").getD _ = _
    simp only [κ]
    norm_num
  rw [hk]

/-- The result block. -/
theorem pay81_at (X : FVec Ideal S528x1024 .f32) (Y : FVec Ideal S512x2816 .bf16) (w : FVec Ideal S1x2816x1024 .bf16)
    (gt : FVec Ideal S1x1x1x1024 .f32) (g : FVec Ideal S1x1x1024 .f32) (q : Fin 512) (e : Fin 1024) :
    k0_pay81 (F := Ideal) X Y w gt g (ix3 0 q e)
      = resid (fun e => X (ix2 ⟨8 + q.val, by omega⟩ e)) (fun e => gt (ix4 0 0 0 e))
          (fun e => ∑ f : Fin 2816, Y (ix2 q f) * w (ix3 0 f e)) (fun e => g (ix3 0 0 e)) e := by
  pointwise [k0_pay81, resid, rms]

/-- One chunk of the gated columns: two up projections of 256 columns, their convolutions, and the gate. -/
def chunk (B : FVec Ideal S528x1024 .bf16) (wa wg : FVec Ideal S1x1024x256 .bf16) (ca : FVec Ideal S1x3x256 .f32) (ba : FVec Ideal S1x1x256 .f32)
    (cg : FVec Ideal S1x3x256 .f32) (bg : FVec Ideal S1x1x256 .f32) : FVec Ideal S512x256 .bf16 :=
  k0_pay20 (F := Ideal) (k0_pay16 (k0_pay21 B wa) ca ba) (k0_pay16 (k0_pay21 B wg) cg bg)
    (mulf (k0_pay16 (k0_pay21 B wa) ca ba) (k0_pay16 (k0_pay21 B wa) ca ba)) k0_pay19

/-- A convolved column of the whole up projection. -/
def convAt (B : FVec Ideal S528x1024 .bf16) (w : Vec Ideal S1x1024x5632 .bf16) (cw : Vec Ideal S1x3x5632 .f32) (cb : Vec Ideal S1x1x5632 .f32)
    (q : Fin 512) (f : Fin 5632) : EReal :=
  conv (fun t => cw (ix3 0 t f)) (cb (ix3 0 0 f)) (fun t => ∑ e, B (ix2 ⟨q.val + 7 + t.val, by omega⟩ e) * w (ix3 0 e f))

/-- A gated column. -/
def gated (B : FVec Ideal S528x1024 .bf16) (w : Vec Ideal S1x1024x5632 .bf16) (cw : Vec Ideal S1x3x5632 .f32) (cb : Vec Ideal S1x1x5632 .f32)
    (q : Fin 512) (f : Fin 2816) : EReal :=
  gateK (((13386282 / 16777216) * (12003091 / 268435456) : ℝ) : EReal) (convAt B w cw cb q ⟨f.val, by omega⟩)
    (convAt B w cw cb q ⟨2816 + f.val, by omega⟩)

/-- 256 columns of the up weights. -/
abbrev ldW (X : Vec Ideal S1x1024x5632 .bf16) (o : ℕ) (h : ∀ a, ![0, 0, o] a + ![1, 1024, 256] a ≤ S1x1024x5632.size a) :
    FVec Ideal S1x1024x256 .bf16 :=
  View.ld (Val := Elt Ideal) X (Rect.unit (s := S1x1024x5632) ![0, 0, o] ![1, 1024, 256] h)

/-- 256 columns of the taps. -/
abbrev ldC (X : Vec Ideal S1x3x5632 .f32) (o : ℕ) (h : ∀ a, ![0, 0, o] a + ![1, 3, 256] a ≤ S1x3x5632.size a) :
    FVec Ideal S1x3x256 .f32 :=
  View.ld (Val := Elt Ideal) X (Rect.unit (s := S1x3x5632) ![0, 0, o] ![1, 3, 256] h)

/-- 256 columns of the bias. -/
abbrev ldB (X : Vec Ideal S1x1x5632 .f32) (o : ℕ) (h : ∀ a, ![0, 0, o] a + ![1, 1, 256] a ≤ S1x1x5632.size a) :
    FVec Ideal S1x1x256 .f32 :=
  View.ld (Val := Elt Ideal) X (Rect.unit (s := S1x1x5632) ![0, 0, o] ![1, 1, 256] h)

/-- 256 rows of the mixing weights. -/
abbrev ldO (X : Vec Ideal S1x1024x1024 .bf16) (o : ℕ) (h : ∀ a, ![0, o, 0] a + ![1, 256, 1024] a ≤ S1x1024x1024.size a) :
    FVec Ideal S1x256x1024 .bf16 :=
  View.ld (Val := Elt Ideal) X (Rect.unit (s := S1x1024x1024) ![0, o, 0] ![1, 256, 1024] h)

theorem ld_w (X : Vec Ideal S1x1024x5632 .bf16) (o : ℕ) (h : ∀ a, ![0, 0, o] a + ![1, 1024, 256] a ≤ S1x1024x5632.size a) (e : Fin 1024) (l : Fin 256) (f : Fin 5632) (hf : f.val = o + l.val) :
    @Eq EReal (ldW X o h (ix3 0 e l)) (X (ix3 0 e f)) := by
  refine congrArg X (funext fun a => Fin.ext ?_)
  match a with
  | 0 => rfl
  | 1 => show 0 + 1 * e.val = e.val; omega
  | 2 => show o + 1 * l.val = f.val; omega

theorem ld_c (X : Vec Ideal S1x3x5632 .f32) (o : ℕ) (h : ∀ a, ![0, 0, o] a + ![1, 3, 256] a ≤ S1x3x5632.size a) (t : Fin 3) (l : Fin 256) (f : Fin 5632) (hf : f.val = o + l.val) :
    @Eq EReal (ldC X o h (ix3 0 t l)) (X (ix3 0 t f)) := by
  refine congrArg X (funext fun a => Fin.ext ?_)
  match a with
  | 0 => rfl
  | 1 => show 0 + 1 * t.val = t.val; omega
  | 2 => show o + 1 * l.val = f.val; omega

theorem ld_b (X : Vec Ideal S1x1x5632 .f32) (o : ℕ) (h : ∀ a, ![0, 0, o] a + ![1, 1, 256] a ≤ S1x1x5632.size a) (l : Fin 256) (f : Fin 5632) (hf : f.val = o + l.val) :
    @Eq EReal (ldB X o h (ix3 0 0 l)) (X (ix3 0 0 f)) := by
  refine congrArg X (funext fun a => Fin.ext ?_)
  match a with
  | 0 => rfl
  | 1 => rfl
  | 2 => show o + 1 * l.val = f.val; omega

theorem ld_o (X : Vec Ideal S1x1024x1024 .bf16) (o : ℕ) (h : ∀ a, ![0, o, 0] a + ![1, 256, 1024] a ≤ S1x1024x1024.size a) (k : Fin 256) (e : Fin 1024) (f : Fin 1024) (hf : f.val = o + k.val) :
    @Eq EReal (ldO X o h (ix3 0 k e)) (X (ix3 0 f e)) := by
  refine congrArg X (funext fun a => Fin.ext ?_)
  match a with
  | 0 => rfl
  | 1 => show o + 1 * k.val = f.val; omega
  | 2 => show 0 + 1 * e.val = e.val; omega

/-- A chunk's columns are those of the whole. -/
theorem chunk_at (B : FVec Ideal S528x1024 .bf16) (w : Vec Ideal S1x1024x5632 .bf16) (cw : Vec Ideal S1x3x5632 .f32) (cb : Vec Ideal S1x1x5632 .f32)
    (o p : ℕ) (hop : p = 2816 + o) (h1 : ∀ a, ![0, 0, o] a + ![1, 1024, 256] a ≤ S1x1024x5632.size a)
    (h2 : ∀ a, ![0, 0, p] a + ![1, 1024, 256] a ≤ S1x1024x5632.size a) (h3 : ∀ a, ![0, 0, o] a + ![1, 3, 256] a ≤ S1x3x5632.size a)
    (h4 : ∀ a, ![0, 0, o] a + ![1, 1, 256] a ≤ S1x1x5632.size a) (h5 : ∀ a, ![0, 0, p] a + ![1, 3, 256] a ≤ S1x3x5632.size a)
    (h6 : ∀ a, ![0, 0, p] a + ![1, 1, 256] a ≤ S1x1x5632.size a) (q : Fin 512) (l : Fin 256) (f : Fin 2816) (hf : f.val = o + l.val) :
    @Eq EReal (chunk B (ldW w o h1) (ldW w p h2) (ldC cw o h3) (ldB cb o h4) (ldC cw p h5) (ldB cb p h6) (ix2 q l))
      (gated B w cw cb q f) := by
  have ea := fun e => ld_w w o h1 e l ⟨f.val, by omega⟩ hf
  have eg := fun e => ld_w w p h2 e l ⟨2816 + f.val, by omega⟩ (by show 2816 + f.val = _; omega)
  have ca := fun t => ld_c cw o h3 t l ⟨f.val, by omega⟩ hf
  have cg := fun t => ld_c cw p h5 t l ⟨2816 + f.val, by omega⟩ (by show 2816 + f.val = _; omega)
  have ba := ld_b cb o h4 l ⟨f.val, by omega⟩ hf
  have bg := ld_b cb p h6 l ⟨2816 + f.val, by omega⟩ (by show 2816 + f.val = _; omega)
  generalize ldW w o h1 = wa at *
  generalize ldW w p h2 = wg at *
  generalize ldC cw o h3 = ta at *
  generalize ldC cw p h5 = tg at *
  generalize ldB cb o h4 = da at *
  generalize ldB cb p h6 = dg at *
  unfold chunk gated
  rw [gate_at, pay16_at, pay16_at]
  unfold convAt
  simp only [pay21_at]
  simp only [ea, eg, ca, cg, ba, bg]

end Cert.Mix
end
-- ==== Proof.MixOut.lean ====
module

public import proofs.«01_k».proof.Proof.MixValue
public import proofs.«01_k».proof.Proof.MixPay
public import Idealize.ShloMosaic.Lib.Pipeline.ValueKit
public import Idealize.ShloMosaic.Lib.Pointwise
public import Idealize.ShloMosaic.Lib.Pipeline.ReadBack

/-! What one grid point of the kernel writes, in terms of the blocks it reads. -/

@[expose] public section

set_option maxRecDepth 16384
set_option maxHeartbeats 4000000

noncomputable section

namespace Cert.Mix

open Cert.Kernel2Ideal.Mix
open Cert.Kernel2Ideal Cert.Kernel2Ideal.Gen Idealize.ShloMosaic Idealize.ShloMosaic.TcCoe Idealize.SL.Sem

/-- The mixers' projection over the extended block. -/
def blkM (x0 : Vec Ideal S1x16x256 .bf16) (x1 : Vec Ideal S1x512x256 .bf16) (x2 : Vec Ideal S1x16x256 .bf16) (x3 : Vec Ideal S1x16x256 .bf16) (x4 : Vec Ideal S1x512x256 .bf16) (x5 : Vec Ideal S1x16x256 .bf16)
    (x6 : Vec Ideal S1x16x256 .bf16) (x7 : Vec Ideal S1x512x256 .bf16) (x8 : Vec Ideal S1x16x256 .bf16) (x9 : Vec Ideal S1x16x256 .bf16) (x10 : Vec Ideal S1x512x256 .bf16) (x11 : Vec Ideal S1x16x256 .bf16)
    (x15 : Vec Ideal S1x1024x1024 .bf16) : FVec Ideal S528x1024 .f32 :=
  k0_pay3 (F := Ideal) (k0_pay1 x0 x1 x2 (ldO x15 0 (by decide)) x3 x4 x5 (ldO x15 256 (by decide))) (k0_pay2 x6) x7 x8 (ldO x15 512 (by decide)) x9 x10 x11 (ldO x15 768 (by decide))

/-- The residual over the extended block. -/
def blkX (M : FVec Ideal S528x1024 .f32) (x12 : Vec Ideal S1x16x1024 .f32) (x13 : Vec Ideal S1x512x1024 .f32) (x14 : Vec Ideal S1x16x1024 .f32)
    (x16 : Vec Ideal S1x1x1024 .f32) (x17 : Vec Ideal S1x1x1x1024 .f32) : FVec Ideal S528x1024 .f32 :=
  k0_pay6 (F := Ideal) M (k0_pay4 x12) (k0_pay5 x13) x14 x17 x16

/-- The modulated rows over the extended block. -/
def blkB (i : Fin 16) (M : FVec Ideal S528x1024 .f32) (x12 : Vec Ideal S1x16x1024 .f32) (x13 : Vec Ideal S1x512x1024 .f32) (x14 : Vec Ideal S1x16x1024 .f32)
    (x16 : Vec Ideal S1x1x1024 .f32) (x17 : Vec Ideal S1x1x1x1024 .f32) (x18 : Vec Ideal S1x1x1024 .f32) (x19 x20 : Vec Ideal S1x1x1x1024 .f32) : FVec Ideal S528x1024 .bf16 :=
  k0_pay10 (F := Ideal) (BitVec.ofNat 32 i.val) (k0_pay7 M (k0_pay4 x12) (k0_pay5 x13) x14 x17 x16 x18) (k0_pay8 x19) k0_pay9 x20

/-- The gated columns of a block. -/
def blkG (B : FVec Ideal S528x1024 .bf16) (w : Vec Ideal S1x1024x5632 .bf16) (cw : Vec Ideal S1x3x5632 .f32) (cb : Vec Ideal S1x1x5632 .f32) : Vec Ideal S512x2816 .bf16 :=
  fun j => gated B w cw cb (j 0) (j 1)

/-- A chunk is the part of the gated columns that it is stored over. -/
theorem piece (B : FVec Ideal S528x1024 .bf16) (w : Vec Ideal S1x1024x5632 .bf16) (cw : Vec Ideal S1x3x5632 .f32) (cb : Vec Ideal S1x1x5632 .f32)
    (o p : ℕ) (hop : p = 2816 + o) (h1 : ∀ a, ![0, 0, o] a + ![1, 1024, 256] a ≤ S1x1024x5632.size a)
    (h2 : ∀ a, ![0, 0, p] a + ![1, 1024, 256] a ≤ S1x1024x5632.size a) (h3 : ∀ a, ![0, 0, o] a + ![1, 3, 256] a ≤ S1x3x5632.size a)
    (h4 : ∀ a, ![0, 0, o] a + ![1, 1, 256] a ≤ S1x1x5632.size a) (h5 : ∀ a, ![0, 0, p] a + ![1, 3, 256] a ≤ S1x3x5632.size a)
    (h6 : ∀ a, ![0, 0, p] a + ![1, 1, 256] a ≤ S1x1x5632.size a) (h : ∀ a, ![0, o] a + ![512, 256] a ≤ S512x2816.size a)
    (y : (Rect.unit (s := S512x2816) ![0, o] ![512, 256] h).shape.Idx) :
    @Eq EReal (chunk B (ldW w o h1) (ldW w p h2) (ldC cw o h3) (ldB cb o h4) (ldC cw p h5) (ldB cb p h6) y)
      (blkG B w cw cb ((Rect.unit (s := S512x2816) ![0, o] ![512, 256] h).emb y)) := by
  have e0 : (((Rect.unit (s := S512x2816) ![0, o] ![512, 256] h).emb y) 0 : Fin 512) = (y 0 : Fin 512) := Fin.ext (show 0 + 1 * (y 0).val = (y 0).val by omega)
  have e1 : (((Rect.unit (s := S512x2816) ![0, o] ![512, 256] h).emb y) 1 : Fin 2816).val = o + (y 1).val := show o + 1 * (y 1).val = o + (y 1).val by omega
  have key := chunk_at B w cw cb o p hop h1 h2 h3 h4 h5 h6 (y 0) (y 1) (((Rect.unit (s := S512x2816) ![0, o] ![512, 256] h).emb y) 1) e1
  rw [show (y : S512x256.Idx) = ix2 (y 0) (y 1) from eq_ix2 y]
  refine key.trans ?_
  show _ = gated B w cw cb (((Rect.unit (s := S512x2816) ![0, o] ![512, 256] h).emb y) 0 : Fin 512) _
  rw [e0]
  rfl

/-- Every column lies in a chunk. -/
theorem colOf (o : ℕ) (h : ∀ a, ![0, o] a + ![512, 256] a ≤ S512x2816.size a) (j : S512x2816.Idx) (hj : (j 1).val / 256 * 256 = o) :
    j ∈ (Rect.unit (s := S512x2816) ![0, o] ![512, 256] h).set := by
  refine Rect.mem_set_unit.mpr fun a => ?_
  match a with
  | 0 => have h0 : (j 0).val < 512 := (j 0).isLt; exact ⟨Nat.zero_le _, show (j 0).val < 0 + 512 by omega⟩
  | 1 => exact ⟨show o ≤ (j 1).val by omega, show (j 1).val < o + 256 by omega⟩

/-- Either the first chunk holds the column or a later one does. -/
theorem cov_cons (o : ℕ) (h : ∀ a, ![0, o] a + ![512, 256] a ≤ S512x2816.size a)
    (w : (Rect.unit (s := S512x2816) ![0, o] ![512, 256] h).shape.Idx → Elt Ideal .bf16) (L : List (View.Piece (Elt Ideal) S512x2816 .bf16)) (j : S512x2816.Idx)
    (hL : (j 1).val / 256 * 256 ≠ o → ∃ q ∈ L, j ∈ q.1.set) :
    ∃ q ∈ (⟨Rect.unit (s := S512x2816) ![0, o] ![512, 256] h, w⟩ : View.Piece (Elt Ideal) S512x2816 .bf16) :: L, j ∈ q.1.set := by
  by_cases hj : (j 1).val / 256 * 256 = o
  · exact ⟨_, List.mem_cons_self, colOf o h j hj⟩
  · obtain ⟨q, hq, hP⟩ := hL hj
    exact ⟨q, List.mem_cons_of_mem _ hq, hP⟩

/-- What a grid point writes. -/
theorem out_eq (c : Dev nD) (i : grid0.Coords) (arg2 : Memref sig .tc .vmem S1x16x256 .bf16) (harg2 : arg2.IsWhole) (arg3 : Memref sig .tc .vmem S1x512x256 .bf16) (harg3 : arg3.IsWhole) (arg4 : Memref sig .tc .vmem S1x16x256 .bf16) (harg4 : arg4.IsWhole) (arg5 : Memref sig .tc .vmem S1x16x256 .bf16) (harg5 : arg5.IsWhole) (arg6 : Memref sig .tc .vmem S1x512x256 .bf16) (harg6 : arg6.IsWhole) (arg7 : Memref sig .tc .vmem S1x16x256 .bf16) (harg7 : arg7.IsWhole) (arg8 : Memref sig .tc .vmem S1x16x256 .bf16) (harg8 : arg8.IsWhole) (arg9 : Memref sig .tc .vmem S1x512x256 .bf16) (harg9 : arg9.IsWhole) (arg10 : Memref sig .tc .vmem S1x16x256 .bf16) (harg10 : arg10.IsWhole) (arg11 : Memref sig .tc .vmem S1x16x256 .bf16) (harg11 : arg11.IsWhole) (arg12 : Memref sig .tc .vmem S1x512x256 .bf16) (harg12 : arg12.IsWhole) (arg13 : Memref sig .tc .vmem S1x16x256 .bf16) (harg13 : arg13.IsWhole) (arg14 : Memref sig .tc .vmem S1x16x1024 .f32) (harg14 : arg14.IsWhole) (arg15 : Memref sig .tc .vmem S1x512x1024 .f32) (harg15 : arg15.IsWhole) (arg16 : Memref sig .tc .vmem S1x16x1024 .f32) (harg16 : arg16.IsWhole) (arg17 : Memref sig .tc .vmem S1x1024x1024 .bf16) (harg17 : arg17.IsWhole) (arg18 : Memref sig .tc .vmem S1x1x1024 .f32) (harg18 : arg18.IsWhole) (arg19 : Memref sig .tc .vmem S1x1x1x1024 .f32) (harg19 : arg19.IsWhole) (arg20 : Memref sig .tc .vmem S1x1x1024 .f32) (harg20 : arg20.IsWhole) (arg21 : Memref sig .tc .vmem S1x1x1x1024 .f32) (harg21 : arg21.IsWhole) (arg22 : Memref sig .tc .vmem S1x1x1x1024 .f32) (harg22 : arg22.IsWhole) (arg23 : Memref sig .tc .vmem S1x1024x5632 .bf16) (harg23 : arg23.IsWhole) (arg24 : Memref sig .tc .vmem S1x3x5632 .f32) (harg24 : arg24.IsWhole) (arg25 : Memref sig .tc .vmem S1x1x5632 .f32) (harg25 : arg25.IsWhole) (arg26 : Memref sig .tc .vmem S1x2816x1024 .bf16) (harg26 : arg26.IsWhole) (arg27 : Memref sig .tc .vmem S1x1x1024 .f32) (harg27 : arg27.IsWhole) (arg28 : Memref sig .tc .vmem S1x1x1x1024 .f32) (harg28 : arg28.IsWhole) (arg29 : Memref sig .tc .vmem S1x512x1024 .f32) (harg29 : arg29.IsWhole) (arg30 : Memref sig .tc .vmem S512x2816 .bf16) (harg30 : arg30.IsWhole)
    (x0 : Vec Ideal S1x16x256 .bf16) (x1 : Vec Ideal S1x512x256 .bf16) (x2 : Vec Ideal S1x16x256 .bf16) (x3 : Vec Ideal S1x16x256 .bf16) (x4 : Vec Ideal S1x512x256 .bf16) (x5 : Vec Ideal S1x16x256 .bf16) (x6 : Vec Ideal S1x16x256 .bf16) (x7 : Vec Ideal S1x512x256 .bf16) (x8 : Vec Ideal S1x16x256 .bf16) (x9 : Vec Ideal S1x16x256 .bf16) (x10 : Vec Ideal S1x512x256 .bf16) (x11 : Vec Ideal S1x16x256 .bf16) (x12 : Vec Ideal S1x16x1024 .f32) (x13 : Vec Ideal S1x512x1024 .f32) (x14 : Vec Ideal S1x16x1024 .f32) (x15 : Vec Ideal S1x1024x1024 .bf16) (x16 : Vec Ideal S1x1x1024 .f32) (x17 : Vec Ideal S1x1x1x1024 .f32) (x18 : Vec Ideal S1x1x1024 .f32) (x19 : Vec Ideal S1x1x1x1024 .f32) (x20 : Vec Ideal S1x1x1x1024 .f32) (x21 : Vec Ideal S1x1024x5632 .bf16) (x22 : Vec Ideal S1x3x5632 .f32) (x23 : Vec Ideal S1x1x5632 .f32) (x24 : Vec Ideal S1x2816x1024 .bf16) (x25 : Vec Ideal S1x1x1024 .f32) (x26 : Vec Ideal S1x1x1x1024 .f32) :
    out0_A_27 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 x10 x11 x12 x13 x14 x15 x16 x17 x18 x19 x20 x21 x22 x23 x24 x25 x26
      = k0_pay81 (F := Ideal) (blkX (blkM x0 x1 x2 x3 x4 x5 x6 x7 x8 x9 x10 x11 x15) x12 x13 x14 x16 x17)
          (blkG (blkB (i 1) (blkM x0 x1 x2 x3 x4 x5 x6 x7 x8 x9 x10 x11 x15) x12 x13 x14 x16 x17 x18 x19 x20) x21 x22 x23) x24 x26 x25 := by
  frame_out
  refine congrArg (fun H : Vec Ideal S512x2816 .bf16 => k0_pay81 (F := Ideal) (blkX (blkM x0 x1 x2 x3 x4 x5 x6 x7 x8 x9 x10 x11 x15) x12 x13 x14 x16 x17) H x24 x26 x25) (funext fun j => ?_)
  rw [View.readCov_eq_canon']
  refine Eq.trans (congrArg (View.canon _) (?_ : _ = j)) ?_
  · funext a
    refine Fin.ext ?_
    match a with
    | 0 => show 0 + 1 * (j 0).val = (j 0).val; omega
    | 1 => show 0 + 1 * (j 1).val = (j 1).val; omega
  refine (congrArg (fun L => View.canon L j) (List.append_nil _).symm).trans
    (View.canon_append_of_piecesOf (blkG (blkB (i 1) (blkM x0 x1 x2 x3 x4 x5 x6 x7 x8 x9 x10 x11 x15) x12 x13 x14 x16 x17 x18 x19 x20) x21 x22 x23) [] _ ?_ j ?_)
  · exact ⟨fun y => piece (blkB (i 1) (blkM x0 x1 x2 x3 x4 x5 x6 x7 x8 x9 x10 x11 x15) x12 x13 x14 x16 x17 x18 x19 x20) x21 x22 x23 2560 5376 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 2304 5120 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 2048 4864 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 1792 4608 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 1536 4352 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 1280 4096 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 1024 3840 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 768 3584 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 512 3328 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 256 3072 rfl (by decide) (by decide) (by decide) (by decide) (by decide) (by decide) (by decide) y, fun y => piece (blkB (i 1) (blkM x0 x1 x2 x3 x4 x5 x6 x7 x8 x9 x10 x11 x15) x12 x13 x14 x16 x17 x18 x19 x20) x21 x22 x23 0 2816 rfl (by decide) (by decide) (by decide) (by decide) (by decide) (by decide) (by decide) y, trivial⟩
  · have h1 : (j 1).val < 2816 := (j 1).isLt
    repeat refine cov_cons _ _ _ _ j fun _ => ?_
    exfalso
    omega

end Cert.Mix
end
-- ==== Proof.MixLayer.lean ====
module

public import proofs.«01_k».proof.Proof.MixMath

/-! The layer's end as plain mathematics, for one sample: what both programs are shown to compute. -/

@[expose] public section

noncomputable section

namespace Cert.Mix

open Idealize.ShloMosaic

/-- What the layer's end reads for one sample: the four mixers' outputs, the latents, the modulation and the weights. -/
structure Layer where
  a0 : Fin 8192 → Fin 256 → EReal
  a1 : Fin 8192 → Fin 256 → EReal
  a2 : Fin 8192 → Fin 256 → EReal
  a3 : Fin 8192 → Fin 256 → EReal
  x : Fin 8192 → Fin 1024 → EReal
  wo : Fin 1024 → Fin 1024 → EReal
  gpm : Fin 1024 → EReal
  gt1 : Fin 1024 → EReal
  gpf : Fin 1024 → EReal
  sc : Fin 1024 → EReal
  sh : Fin 1024 → EReal
  wup : Fin 1024 → Fin 5632 → EReal
  cw : Fin 3 → Fin 5632 → EReal
  cb : Fin 5632 → EReal
  wd : Fin 2816 → Fin 1024 → EReal
  gpost : Fin 1024 → EReal
  gt2 : Fin 1024 → EReal

namespace Layer

variable (L : Layer)

/-- The mixers' outputs projected, group by group. -/
def proj (n : Fin 8192) (e : Fin 1024) : EReal :=
  (∑ k : Fin 256, L.a0 n k * L.wo ⟨k.val, by omega⟩ e) + (∑ k : Fin 256, L.a1 n k * L.wo ⟨256 + k.val, by omega⟩ e)
    + (∑ k : Fin 256, L.a2 n k * L.wo ⟨512 + k.val, by omega⟩ e) + ∑ k : Fin 256, L.a3 n k * L.wo ⟨768 + k.val, by omega⟩ e

/-- The latents after the mixers. -/
def mid (n : Fin 8192) (e : Fin 1024) : EReal := resid (L.x n) L.gt1 (L.proj n) L.gpm e

/-- The feed-forward's input. -/
def hx (n : Fin 8192) (e : Fin 1024) : EReal := modul (L.mid n) L.gpf L.sc L.sh e

/-- The up projection. -/
def up (n : Fin 8192) (f : Fin 5632) : EReal := ∑ e, L.hx n e * L.wup e f

/-- The up projection with a row of zeros before the first and after the last. -/
def pad (n : ℕ) (f : Fin 5632) : EReal := if h : 1 ≤ n ∧ n - 1 < 8192 then L.up ⟨n - 1, h.2⟩ f else 0

/-- The convolution over the sequence. -/
def cv (n : Fin 8192) (f : Fin 5632) : EReal := conv (fun t => L.cw t f) (L.cb f) (fun t => L.pad (n.val + t.val) f)

/-- The gated columns. -/
def gate (n : Fin 8192) (f : Fin 2816) : EReal := gateR (L.cv n ⟨f.val, by omega⟩) (L.cv n ⟨2816 + f.val, by omega⟩)

/-- The latents after the layer. -/
def out (n : Fin 8192) (e : Fin 1024) : EReal := resid (L.mid n) L.gt2 (fun e => ∑ f, L.gate n f * L.wd f e) L.gpost e

end Layer

/-- A sample's layer, from the arrays: the second layer's weights and modulation. -/
def layerOf (x0 x1 x2 x3 : (⟨3, ![4, 8192, 256]⟩ : Shape).Idx → EReal) (x4 : (⟨3, ![4, 8192, 1024]⟩ : Shape).Idx → EReal)
    (x5 : (⟨3, ![2, 4, 6144]⟩ : Shape).Idx → EReal) (x6 : (⟨3, ![2, 1024, 1024]⟩ : Shape).Idx → EReal)
    (x7 x8 x9 : (⟨2, ![2, 1024]⟩ : Shape).Idx → EReal) (x10 : (⟨3, ![2, 1024, 5632]⟩ : Shape).Idx → EReal)
    (x11 : (⟨3, ![2, 3, 5632]⟩ : Shape).Idx → EReal) (x12 : (⟨2, ![2, 5632]⟩ : Shape).Idx → EReal)
    (x13 : (⟨3, ![2, 2816, 1024]⟩ : Shape).Idx → EReal) (b : Fin 4) : Layer where
  a0 n k := x0 (ix3 b n k)
  a1 n k := x1 (ix3 b n k)
  a2 n k := x2 (ix3 b n k)
  a3 n k := x3 (ix3 b n k)
  x n e := x4 (ix3 b n e)
  wo k e := x6 (ix3 1 k e)
  gpm e := x7 (ix2 1 e)
  gt1 e := x5 (ix3 1 b ⟨2048 + e.val, by omega⟩)
  gpf e := x8 (ix2 1 e)
  sc e := x5 (ix3 1 b ⟨4096 + e.val, by omega⟩)
  sh e := x5 (ix3 1 b ⟨3072 + e.val, by omega⟩)
  wup e f := x10 (ix3 1 e f)
  cw t f := x11 (ix3 1 t f)
  cb f := x12 (ix2 1 f)
  wd f e := x13 (ix3 1 f e)
  gpost e := x9 (ix2 1 e)
  gt2 e := x5 (ix3 1 b ⟨5120 + e.val, by omega⟩)

end Cert.Mix
end
-- ==== Proof.MixBlock.lean ====
module

public import proofs.«01_k».proof.Proof.MixOut
public import proofs.«01_k».proof.Proof.MixLayer

/-! What a grid point of the kernel writes, when the blocks it reads are the layer's. -/

@[expose] public section

set_option maxRecDepth 16384

noncomputable section

namespace Cert.Mix

open Cert.Kernel2Ideal Cert.Kernel2Ideal.Gen Idealize.ShloMosaic

/-- The three blocks are rows of `A` around block `i`, as far as the sequence reaches. -/
structure Halo {C : ℕ} (A : Fin 8192 → Fin C → EReal) (i : Fin 16) (p : (⟨3, ![1, 16, C]⟩ : Shape).Idx → EReal)
    (x : (⟨3, ![1, 512, C]⟩ : Shape).Idx → EReal) (n : (⟨3, ![1, 16, C]⟩ : Shape).Idx → EReal) : Prop where
  prev : ∀ (r : Fin 16) (j : Fin 8192) (k : Fin C), j.val + 16 = 512 * i.val + r.val → p (ix3 0 r k) = A j k
  here : ∀ (r : Fin 512) (j : Fin 8192) (k : Fin C), j.val = 512 * i.val + r.val → x (ix3 0 r k) = A j k
  next : ∀ (r : Fin 16) (j : Fin 8192) (k : Fin C), j.val = 512 * i.val + 512 + r.val → n (ix3 0 r k) = A j k

/-- A row of the extended block is a row of `A`. -/
theorem Halo.ext {C : ℕ} {A : Fin 8192 → Fin C → EReal} {i : Fin 16} {p : (⟨3, ![1, 16, C]⟩ : Shape).Idx → EReal}
    {x : (⟨3, ![1, 512, C]⟩ : Shape).Idx → EReal} {n : (⟨3, ![1, 16, C]⟩ : Shape).Idx → EReal} (h : Halo A i p x n)
    (r : Fin 528) (j : Fin 8192) (hj : j.val + 8 = 512 * i.val + r.val) : ext p x n r = A j := by
  funext k
  unfold Cert.Mix.ext
  split
  · exact h.prev _ j k (by show j.val + 16 = 512 * i.val + (8 + r.val); omega)
  · split
    · exact h.here _ j k (by show j.val = 512 * i.val + (r.val - 8); omega)
    · exact h.next _ j k (by show j.val = 512 * i.val + 512 + (r.val - 8 - 512); omega)

section
variable (L : Layer) (i : Fin 16) (x0 : Vec Ideal S1x16x256 .bf16) (x1 : Vec Ideal S1x512x256 .bf16) (x2 : Vec Ideal S1x16x256 .bf16) (x3 : Vec Ideal S1x16x256 .bf16) (x4 : Vec Ideal S1x512x256 .bf16) (x5 : Vec Ideal S1x16x256 .bf16)
    (x6 : Vec Ideal S1x16x256 .bf16) (x7 : Vec Ideal S1x512x256 .bf16) (x8 : Vec Ideal S1x16x256 .bf16) (x9 : Vec Ideal S1x16x256 .bf16) (x10 : Vec Ideal S1x512x256 .bf16) (x11 : Vec Ideal S1x16x256 .bf16)
    (x12 : Vec Ideal S1x16x1024 .f32) (x13 : Vec Ideal S1x512x1024 .f32) (x14 : Vec Ideal S1x16x1024 .f32)
    (x15 : Vec Ideal S1x1024x1024 .bf16) (x16 : Vec Ideal S1x1x1024 .f32) (x17 : Vec Ideal S1x1x1x1024 .f32) (x18 : Vec Ideal S1x1x1024 .f32)
    (x19 x20 : Vec Ideal S1x1x1x1024 .f32) (x21 : Vec Ideal S1x1024x5632 .bf16) (x22 : Vec Ideal S1x3x5632 .f32) (x23 : Vec Ideal S1x1x5632 .f32)
    (x24 : Vec Ideal S1x2816x1024 .bf16) (x25 : Vec Ideal S1x1x1024 .f32) (x26 : Vec Ideal S1x1x1x1024 .f32)

/-- The blocks a grid point reads are the layer's. -/
structure Blocks : Prop where
  h0 : Halo L.a0 i x0 x1 x2
  h1 : Halo L.a1 i x3 x4 x5
  h2 : Halo L.a2 i x6 x7 x8
  h3 : Halo L.a3 i x9 x10 x11
  hx : Halo L.x i x12 x13 x14
  wo : ∀ k e, @Eq EReal (x15 (ix3 0 k e)) (L.wo k e)
  gpm : ∀ e, @Eq EReal (x16 (ix3 0 0 e)) (L.gpm e)
  gt1 : ∀ e, @Eq EReal (x17 (ix4 0 0 0 e)) (L.gt1 e)
  gpf : ∀ e, @Eq EReal (x18 (ix3 0 0 e)) (L.gpf e)
  sc : ∀ e, @Eq EReal (x19 (ix4 0 0 0 e)) (L.sc e)
  sh : ∀ e, @Eq EReal (x20 (ix4 0 0 0 e)) (L.sh e)
  wup : ∀ e f, @Eq EReal (x21 (ix3 0 e f)) (L.wup e f)
  cwa : ∀ t (f : Fin 5632), f.val < 2816 → @Eq EReal (x22 (ix3 0 t f)) (L.cw t f)
  cwg : ∀ t (f : Fin 5632), 2816 ≤ f.val → @Eq EReal (x22 (ix3 0 t f)) (L.cw t f * ((1 / 2 : ℝ) : EReal))
  cba : ∀ f : Fin 5632, f.val < 2816 → @Eq EReal (x23 (ix3 0 0 f)) (L.cb f)
  cbg : ∀ f : Fin 5632, 2816 ≤ f.val → @Eq EReal (x23 (ix3 0 0 f)) (L.cb f * ((1 / 2 : ℝ) : EReal))
  wd : ∀ f e, @Eq EReal (x24 (ix3 0 f e)) (L.wd f e)
  gpost : ∀ e, @Eq EReal (x25 (ix3 0 0 e)) (L.gpost e)
  gt2 : ∀ e, @Eq EReal (x26 (ix4 0 0 0 e)) (L.gt2 e)

variable {L i x0 x1 x2 x3 x4 x5 x6 x7 x8 x9 x10 x11 x12 x13 x14 x15 x16 x17 x18 x19 x20 x21 x22 x23 x24 x25 x26}
variable (H : Blocks L i x0 x1 x2 x3 x4 x5 x6 x7 x8 x9 x10 x11 x12 x13 x14 x15 x16 x17 x18 x19 x20 x21 x22 x23 x24 x25 x26)
include H

/-- The projection's rows. -/
theorem Blocks.M (r : Fin 528) (j : Fin 8192) (hj : j.val + 8 = 512 * i.val + r.val) (e : Fin 1024) :
    @Eq EReal (blkM x0 x1 x2 x3 x4 x5 x6 x7 x8 x9 x10 x11 x15 (ix2 r e)) (L.proj j e) := by
  unfold blkM
  refine (pay3_at _ _ _ _ _ _ _ _ _ r e).trans ?_
  rw [pay1_at, H.h0.ext r j hj, H.h1.ext r j hj, H.h2.ext r j hj, H.h3.ext r j hj]
  unfold Layer.proj
  have s : ∀ (o : ℕ) (ho : o + 256 ≤ 1024) (hb) (a : Fin 256 → EReal),
      (∑ k : Fin 256, a k * (ldO x15 o hb (ix3 0 k e) : EReal)) = ∑ k : Fin 256, a k * L.wo ⟨o + k.val, by omega⟩ e :=
    fun o ho hb a => Finset.sum_congr rfl fun k _ => by rw [ld_o x15 o hb k e ⟨o + k.val, by omega⟩ rfl, H.wo]
  have s0 := s 0 (by omega) (by decide) (L.a0 j)
  simp only [Nat.zero_add] at s0
  exact congrArg₂ _ (congrArg₂ _ (congrArg₂ _ s0 (s 256 (by omega) (by decide) _)) (s 512 (by omega) (by decide) _)) (s 768 (by omega) (by decide) _)

/-- The rows after the mixers. -/
theorem Blocks.X (r : Fin 528) (j : Fin 8192) (hj : j.val + 8 = 512 * i.val + r.val) (e : Fin 1024) :
    @Eq EReal (blkX (blkM x0 x1 x2 x3 x4 x5 x6 x7 x8 x9 x10 x11 x15) x12 x13 x14 x16 x17 (ix2 r e)) (L.mid j e) := by
  unfold blkX
  refine (pay6_at _ _ _ _ _ _ r e).trans ?_
  unfold Layer.mid
  rw [H.hx.ext r j hj, show (fun e => (blkM x0 x1 x2 x3 x4 x5 x6 x7 x8 x9 x10 x11 x15 (ix2 r e) : EReal)) = L.proj j from funext (H.M r j hj),
    show (fun e => (x17 (ix4 0 0 0 e) : EReal)) = L.gt1 from funext H.gt1, show (fun e => (x16 (ix3 0 0 e) : EReal)) = L.gpm from funext H.gpm]

/-- The feed-forward's input rows. -/
theorem Blocks.B (r : Fin 528) (j : Fin 8192) (hj : j.val + 8 = 512 * i.val + r.val) (e : Fin 1024) :
    @Eq EReal (blkB i (blkM x0 x1 x2 x3 x4 x5 x6 x7 x8 x9 x10 x11 x15) x12 x13 x14 x16 x17 x18 x19 x20 (ix2 r e)) (L.hx j e) := by
  unfold blkB
  refine (pay10_at i _ _ _ r e).trans ?_
  rw [if_neg (by omega), pay7_at]
  unfold Layer.hx modul
  rw [show (fun e => (k0_pay6 (F := Ideal) (blkM x0 x1 x2 x3 x4 x5 x6 x7 x8 x9 x10 x11 x15) (k0_pay4 x12) (k0_pay5 x13) x14 x17 x16 (ix2 r e) : EReal)) = L.mid j from funext (H.X r j hj)]
  exact congrArg₂ _ (congrArg₂ _ (congrArg₂ _ rfl (H.gpf e)) (congrArg₂ _ rfl (H.sc e))) (H.sh e)

omit H in
/-- The rows outside the sequence are zero. -/
theorem blkB_zero (i : Fin 16) (M : FVec Ideal S528x1024 .f32) (r : Fin 528) (hr : i.val = 0 ∧ r.val < 8 ∨ i.val = 15 ∧ 520 ≤ r.val) (e : Fin 1024) :
    @Eq EReal (blkB i M x12 x13 x14 x16 x17 x18 x19 x20 (ix2 r e)) 0 := by
  unfold blkB
  exact (pay10_at i _ _ _ r e).trans (if_pos hr)

/-- The up projection's rows, with the zero rows outside the sequence. -/
theorem Blocks.U (q : Fin 512) (n : Fin 8192) (hn : n.val = 512 * i.val + q.val) (t : Fin 3) (f : Fin 5632) :
    (∑ e, (blkB i (blkM x0 x1 x2 x3 x4 x5 x6 x7 x8 x9 x10 x11 x15) x12 x13 x14 x16 x17 x18 x19 x20 (ix2 ⟨q.val + 7 + t.val, by omega⟩ e) : EReal) * (x21 (ix3 0 e f) : EReal))
      = L.pad (n.val + t.val) f := by
  unfold Layer.pad
  split
  · rename_i h
    refine Finset.sum_congr rfl fun e _ => ?_
    exact congrArg₂ _ (H.B _ ⟨n.val + t.val - 1, h.2⟩ (by show n.val + t.val - 1 + 8 = 512 * i.val + (q.val + 7 + t.val); omega) e) (H.wup e f)
  · rename_i h
    refine Finset.sum_eq_zero fun e _ => ?_
    refine (congrArg (fun z : EReal => z * (x21 (ix3 0 e f) : EReal)) (blkB_zero i _ _ (by show i.val = 0 ∧ q.val + 7 + t.val < 8 ∨ i.val = 15 ∧ 520 ≤ q.val + 7 + t.val; omega) e)).trans (zero_mul _)

/-- The gated columns. -/
theorem Blocks.G (q : Fin 512) (n : Fin 8192) (hn : n.val = 512 * i.val + q.val) (f : Fin 2816) :
    gated (blkB i (blkM x0 x1 x2 x3 x4 x5 x6 x7 x8 x9 x10 x11 x15) x12 x13 x14 x16 x17 x18 x19 x20) x21 x22 x23 q f = L.gate n f := by
  unfold gated Layer.gate
  have ha : convAt (blkB i (blkM x0 x1 x2 x3 x4 x5 x6 x7 x8 x9 x10 x11 x15) x12 x13 x14 x16 x17 x18 x19 x20) x21 x22 x23 q ⟨f.val, by omega⟩
      = L.cv n ⟨f.val, by omega⟩ := by
    unfold convAt Layer.cv
    rw [show (fun t => _) = _ from funext fun t => H.U q n hn t ⟨f.val, by omega⟩]
    exact congrArg₂ (fun w b => conv w b _) (funext fun t => H.cwa t _ f.isLt) (H.cba _ f.isLt)
  have hg : convAt (blkB i (blkM x0 x1 x2 x3 x4 x5 x6 x7 x8 x9 x10 x11 x15) x12 x13 x14 x16 x17 x18 x19 x20) x21 x22 x23 q ⟨2816 + f.val, by omega⟩
      = ((1 / 2 : ℝ) : EReal) * L.cv n ⟨2816 + f.val, by omega⟩ := by
    unfold convAt Layer.cv
    rw [show (fun t => _) = _ from funext fun t => H.U q n hn t ⟨2816 + f.val, by omega⟩]
    refine Eq.trans ?_ (conv_half _ _ _ (by norm_num))
    exact congrArg₂ (fun w b => conv w b _) (funext fun t => H.cwg t _ (Nat.le_add_right _ _)) (H.cbg _ (Nat.le_add_right _ _))
  rw [ha, hg]
  exact gate_eq _ _ _ rfl

/-- What a grid point writes. -/
theorem Blocks.out (q : Fin 512) (n : Fin 8192) (hn : n.val = 512 * i.val + q.val) (e : Fin 1024) :
    @Eq EReal (k0_pay81 (F := Ideal) (blkX (blkM x0 x1 x2 x3 x4 x5 x6 x7 x8 x9 x10 x11 x15) x12 x13 x14 x16 x17)
      (blkG (blkB i (blkM x0 x1 x2 x3 x4 x5 x6 x7 x8 x9 x10 x11 x15) x12 x13 x14 x16 x17 x18 x19 x20) x21 x22 x23) x24 x26 x25 (ix3 0 q e))
      (L.out n e) := by
  have hX : ∀ e, @Eq EReal (blkX (blkM x0 x1 x2 x3 x4 x5 x6 x7 x8 x9 x10 x11 x15) x12 x13 x14 x16 x17 (ix2 ⟨8 + q.val, by omega⟩ e)) (L.mid n e) :=
    H.X _ n (by show n.val + 8 = 512 * i.val + (8 + q.val); omega)
  have hG : ∀ f, @Eq EReal (blkG (blkB i (blkM x0 x1 x2 x3 x4 x5 x6 x7 x8 x9 x10 x11 x15) x12 x13 x14 x16 x17 x18 x19 x20) x21 x22 x23 (ix2 q f)) (L.gate n f) := H.G q n hn
  generalize blkX (blkM x0 x1 x2 x3 x4 x5 x6 x7 x8 x9 x10 x11 x15) x12 x13 x14 x16 x17 = X at hX ⊢
  generalize blkG (blkB i (blkM x0 x1 x2 x3 x4 x5 x6 x7 x8 x9 x10 x11 x15) x12 x13 x14 x16 x17 x18 x19 x20) x21 x22 x23 = Y at hG ⊢
  refine (pay81_at X Y x24 x26 x25 q e).trans ?_
  unfold Layer.out resid
  refine congrArg₂ _ (hX e) (congrArg₂ _ (H.gt2 e) (congrArg₂ _ (congrArg (fun v => rms v e) (funext fun e => ?_)) (H.gpost e)))
  exact Finset.sum_congr rfl fun f _ => congrArg₂ _ (hG f) (H.wd f e)

end

end Cert.Mix
end
-- ==== Proof.MixHost.lean ====
module

public import proofs.«01_k».proof.Proof.MixValue
public import proofs.«01_k».proof.Proof.MixLayer
public import Idealize.ShloMosaic.Lib.Pipeline.ValueKit
public import Idealize.ShloMosaic.Lib.Pointwise

/-! The blocks a grid point of the kernel reads, down to the program's arguments. -/

@[expose] public section

set_option maxRecDepth 16384

noncomputable section

namespace Cert.Mix

open Idealize.ShloMosaic Idealize.ShloMosaic.TcCoe Idealize.SL.Sem Cert.Kernel2Ideal Cert.Kernel2Ideal.Gen
open Idealize.ShloMosaic.Pipeline (Dat)

variable (m : (ℓ : Loc nD τ sig) → Buf (Elt Ideal) ℓ)

/-- Which block each window of the sequence holds at a grid point: the block before, the block, the block after. -/
theorem idxS : ∀ t : Fin cfg0.N,
    win0_0.index t = ![t.val / 16, 32 * (t.val % 16) - 1, 0]
    ∧ win0_1.index t = ![t.val / 16, t.val % 16, 0]
    ∧ win0_2.index t = ![t.val / 16, min (32 * (t.val % 16 + 1)) 511, 0]
    ∧ win0_3.index t = ![t.val / 16, 32 * (t.val % 16) - 1, 0]
    ∧ win0_4.index t = ![t.val / 16, t.val % 16, 0]
    ∧ win0_5.index t = ![t.val / 16, min (32 * (t.val % 16 + 1)) 511, 0]
    ∧ win0_6.index t = ![t.val / 16, 32 * (t.val % 16) - 1, 0]
    ∧ win0_7.index t = ![t.val / 16, t.val % 16, 0]
    ∧ win0_8.index t = ![t.val / 16, min (32 * (t.val % 16 + 1)) 511, 0]
    ∧ win0_9.index t = ![t.val / 16, 32 * (t.val % 16) - 1, 0]
    ∧ win0_10.index t = ![t.val / 16, t.val % 16, 0]
    ∧ win0_11.index t = ![t.val / 16, min (32 * (t.val % 16 + 1)) 511, 0]
    ∧ win0_12.index t = ![t.val / 16, 32 * (t.val % 16) - 1, 0]
    ∧ win0_13.index t = ![t.val / 16, t.val % 16, 0]
    ∧ win0_14.index t = ![t.val / 16, min (32 * (t.val % 16 + 1)) 511, 0] :=
  (by decide +kernel : ∀ t : Fin grid0.N, _)

/-- Which block each window of a weight or of the modulation holds. -/
theorem idxW : ∀ t : Fin cfg0.N,
    win0_15.index t = ![1, 0, 0]
    ∧ win0_16.index t = ![1, 0, 0]
    ∧ win0_18.index t = ![1, 0, 0]
    ∧ win0_21.index t = ![1, 0, 0]
    ∧ win0_22.index t = ![1, 0, 0]
    ∧ win0_23.index t = ![1, 0, 0]
    ∧ win0_24.index t = ![1, 0, 0]
    ∧ win0_25.index t = ![1, 0, 0]
    ∧ win0_17.index t = ![1, t.val / 16, 0, 2]
    ∧ win0_19.index t = ![1, t.val / 16, 0, 4]
    ∧ win0_20.index t = ![1, t.val / 16, 0, 3]
    ∧ win0_26.index t = ![1, t.val / 16, 0, 5] :=
  (by decide +kernel : ∀ t : Fin grid0.N, _)

section
variable (c : Dev nD) (W : (b : Ref sig .tc) → Buf (Elt Ideal) ((c : Thread nD τ).loc b)) (t : Fin cfg0.N) (b : Fin 4)
  (hb : b.val = t.val / 16)

section
include hb

/-- A window's block at an index. -/
theorem rd0 (r : Fin 16) (j : Fin 8192) (k : Fin 256) (hj : j.val + 16 = 512 * (t.val % 16) + r.val) :
    ((cfg0.win 0).blk t).view.read (Elt Ideal) (W (Pipeline.arrRef spec0 0)) (ix3 0 r k) = W main_v0 (ix3 b j k) := by
  blk_ext [idxS t]

/-- A window's block at an index. -/
theorem rd1 (r : Fin 512) (j : Fin 8192) (k : Fin 256) (hj : j.val = 512 * (t.val % 16) + r.val) :
    ((cfg0.win 1).blk t).view.read (Elt Ideal) (W (Pipeline.arrRef spec0 1)) (ix3 0 r k) = W main_v0 (ix3 b j k) := by
  blk_ext [idxS t]

/-- A window's block at an index. -/
theorem rd2 (r : Fin 16) (j : Fin 8192) (k : Fin 256) (hj : j.val = 512 * (t.val % 16) + 512 + r.val) :
    ((cfg0.win 2).blk t).view.read (Elt Ideal) (W (Pipeline.arrRef spec0 2)) (ix3 0 r k) = W main_v0 (ix3 b j k) := by
  blk_ext [idxS t]

/-- A window's block at an index. -/
theorem rd3 (r : Fin 16) (j : Fin 8192) (k : Fin 256) (hj : j.val + 16 = 512 * (t.val % 16) + r.val) :
    ((cfg0.win 3).blk t).view.read (Elt Ideal) (W (Pipeline.arrRef spec0 3)) (ix3 0 r k) = W main_v1 (ix3 b j k) := by
  blk_ext [idxS t]

/-- A window's block at an index. -/
theorem rd4 (r : Fin 512) (j : Fin 8192) (k : Fin 256) (hj : j.val = 512 * (t.val % 16) + r.val) :
    ((cfg0.win 4).blk t).view.read (Elt Ideal) (W (Pipeline.arrRef spec0 4)) (ix3 0 r k) = W main_v1 (ix3 b j k) := by
  blk_ext [idxS t]

/-- A window's block at an index. -/
theorem rd5 (r : Fin 16) (j : Fin 8192) (k : Fin 256) (hj : j.val = 512 * (t.val % 16) + 512 + r.val) :
    ((cfg0.win 5).blk t).view.read (Elt Ideal) (W (Pipeline.arrRef spec0 5)) (ix3 0 r k) = W main_v1 (ix3 b j k) := by
  blk_ext [idxS t]

/-- A window's block at an index. -/
theorem rd6 (r : Fin 16) (j : Fin 8192) (k : Fin 256) (hj : j.val + 16 = 512 * (t.val % 16) + r.val) :
    ((cfg0.win 6).blk t).view.read (Elt Ideal) (W (Pipeline.arrRef spec0 6)) (ix3 0 r k) = W main_v2 (ix3 b j k) := by
  blk_ext [idxS t]

/-- A window's block at an index. -/
theorem rd7 (r : Fin 512) (j : Fin 8192) (k : Fin 256) (hj : j.val = 512 * (t.val % 16) + r.val) :
    ((cfg0.win 7).blk t).view.read (Elt Ideal) (W (Pipeline.arrRef spec0 7)) (ix3 0 r k) = W main_v2 (ix3 b j k) := by
  blk_ext [idxS t]

/-- A window's block at an index. -/
theorem rd8 (r : Fin 16) (j : Fin 8192) (k : Fin 256) (hj : j.val = 512 * (t.val % 16) + 512 + r.val) :
    ((cfg0.win 8).blk t).view.read (Elt Ideal) (W (Pipeline.arrRef spec0 8)) (ix3 0 r k) = W main_v2 (ix3 b j k) := by
  blk_ext [idxS t]

/-- A window's block at an index. -/
theorem rd9 (r : Fin 16) (j : Fin 8192) (k : Fin 256) (hj : j.val + 16 = 512 * (t.val % 16) + r.val) :
    ((cfg0.win 9).blk t).view.read (Elt Ideal) (W (Pipeline.arrRef spec0 9)) (ix3 0 r k) = W main_v3 (ix3 b j k) := by
  blk_ext [idxS t]

/-- A window's block at an index. -/
theorem rd10 (r : Fin 512) (j : Fin 8192) (k : Fin 256) (hj : j.val = 512 * (t.val % 16) + r.val) :
    ((cfg0.win 10).blk t).view.read (Elt Ideal) (W (Pipeline.arrRef spec0 10)) (ix3 0 r k) = W main_v3 (ix3 b j k) := by
  blk_ext [idxS t]

/-- A window's block at an index. -/
theorem rd11 (r : Fin 16) (j : Fin 8192) (k : Fin 256) (hj : j.val = 512 * (t.val % 16) + 512 + r.val) :
    ((cfg0.win 11).blk t).view.read (Elt Ideal) (W (Pipeline.arrRef spec0 11)) (ix3 0 r k) = W main_v3 (ix3 b j k) := by
  blk_ext [idxS t]

/-- A window's block at an index. -/
theorem rd12 (r : Fin 16) (j : Fin 8192) (k : Fin 1024) (hj : j.val + 16 = 512 * (t.val % 16) + r.val) :
    ((cfg0.win 12).blk t).view.read (Elt Ideal) (W (Pipeline.arrRef spec0 12)) (ix3 0 r k) = W main_arg4 (ix3 b j k) := by
  blk_ext [idxS t]

/-- A window's block at an index. -/
theorem rd13 (r : Fin 512) (j : Fin 8192) (k : Fin 1024) (hj : j.val = 512 * (t.val % 16) + r.val) :
    ((cfg0.win 13).blk t).view.read (Elt Ideal) (W (Pipeline.arrRef spec0 13)) (ix3 0 r k) = W main_arg4 (ix3 b j k) := by
  blk_ext [idxS t]

/-- A window's block at an index. -/
theorem rd14 (r : Fin 16) (j : Fin 8192) (k : Fin 1024) (hj : j.val = 512 * (t.val % 16) + 512 + r.val) :
    ((cfg0.win 14).blk t).view.read (Elt Ideal) (W (Pipeline.arrRef spec0 14)) (ix3 0 r k) = W main_arg4 (ix3 b j k) := by
  blk_ext [idxS t]

/-- A window's block at an index. -/
theorem rd17 (b' : Fin 8) (hb' : b'.val = b.val) (e : Fin 1024) :
    ((cfg0.win 17).blk t).view.read (Elt Ideal) (W (Pipeline.arrRef spec0 17)) (ix4 0 0 0 e) = W main_v6 (ix4 1 b' 0 ⟨2048 + e.val, by omega⟩) := by
  blk_ext [idxW t]

/-- A window's block at an index. -/
theorem rd19 (b' : Fin 8) (hb' : b'.val = b.val) (e : Fin 1024) :
    ((cfg0.win 19).blk t).view.read (Elt Ideal) (W (Pipeline.arrRef spec0 19)) (ix4 0 0 0 e) = W main_v6 (ix4 1 b' 0 ⟨4096 + e.val, by omega⟩) := by
  blk_ext [idxW t]

/-- A window's block at an index. -/
theorem rd20 (b' : Fin 8) (hb' : b'.val = b.val) (e : Fin 1024) :
    ((cfg0.win 20).blk t).view.read (Elt Ideal) (W (Pipeline.arrRef spec0 20)) (ix4 0 0 0 e) = W main_v6 (ix4 1 b' 0 ⟨3072 + e.val, by omega⟩) := by
  blk_ext [idxW t]

/-- A window's block at an index. -/
theorem rd26 (b' : Fin 8) (hb' : b'.val = b.val) (e : Fin 1024) :
    ((cfg0.win 26).blk t).view.read (Elt Ideal) (W (Pipeline.arrRef spec0 26)) (ix4 0 0 0 e) = W main_v6 (ix4 1 b' 0 ⟨5120 + e.val, by omega⟩) := by
  blk_ext [idxW t]

end

/-- A window's block at an index. -/
theorem rd15 (r : Fin 1024) (k : Fin 1024) :
    ((cfg0.win 15).blk t).view.read (Elt Ideal) (W (Pipeline.arrRef spec0 15)) (ix3 0 r k) = W main_v10 (ix3 1 r k) := by
  blk_ext [idxW t]

/-- A window's block at an index. -/
theorem rd21 (r : Fin 1024) (k : Fin 5632) :
    ((cfg0.win 21).blk t).view.read (Elt Ideal) (W (Pipeline.arrRef spec0 21)) (ix3 0 r k) = W main_v11 (ix3 1 r k) := by
  blk_ext [idxW t]

/-- A window's block at an index. -/
theorem rd22 (r : Fin 3) (k : Fin 5632) :
    ((cfg0.win 22).blk t).view.read (Elt Ideal) (W (Pipeline.arrRef spec0 22)) (ix3 0 r k) = W main_v18 (ix3 1 r k) := by
  blk_ext [idxW t]

/-- A window's block at an index. -/
theorem rd24 (r : Fin 2816) (k : Fin 1024) :
    ((cfg0.win 24).blk t).view.read (Elt Ideal) (W (Pipeline.arrRef spec0 24)) (ix3 0 r k) = W main_v12 (ix3 1 r k) := by
  blk_ext [idxW t]

/-- A window's block at an index. -/
theorem rd16 (k : Fin 1024) :
    ((cfg0.win 16).blk t).view.read (Elt Ideal) (W (Pipeline.arrRef spec0 16)) (ix3 0 0 k) = W main_v7 (ix3 1 0 k) := by
  blk_ext [idxW t]

/-- A window's block at an index. -/
theorem rd18 (k : Fin 1024) :
    ((cfg0.win 18).blk t).view.read (Elt Ideal) (W (Pipeline.arrRef spec0 18)) (ix3 0 0 k) = W main_v8 (ix3 1 0 k) := by
  blk_ext [idxW t]

/-- A window's block at an index. -/
theorem rd25 (k : Fin 1024) :
    ((cfg0.win 25).blk t).view.read (Elt Ideal) (W (Pipeline.arrRef spec0 25)) (ix3 0 0 k) = W main_v9 (ix3 1 0 k) := by
  blk_ext [idxW t]

/-- A window's block at an index. -/
theorem rd23 (k : Fin 5632) :
    ((cfg0.win 23).blk t).view.read (Elt Ideal) (W (Pipeline.arrRef spec0 23)) (ix3 0 0 k) = W main_v22 (ix3 1 0 k) := by
  blk_ext [idxW t]

end

/-! ## What the host code put there -/

/-- A host array at an index. -/
theorem host_a0 (c : Dev nD) (b : Fin 4) (j : Fin 8192) (k : Fin 256) :
    @Eq EReal (V m c main_v0 (ix3 b j k)) (m (c, Proc.tc.devRef main_arg0) (ix3 b j k)) := by
  entry_read
  pointwise

/-- A host array at an index. -/
theorem host_a1 (c : Dev nD) (b : Fin 4) (j : Fin 8192) (k : Fin 256) :
    @Eq EReal (V m c main_v1 (ix3 b j k)) (m (c, Proc.tc.devRef main_arg1) (ix3 b j k)) := by
  entry_read
  pointwise

/-- A host array at an index. -/
theorem host_a2 (c : Dev nD) (b : Fin 4) (j : Fin 8192) (k : Fin 256) :
    @Eq EReal (V m c main_v2 (ix3 b j k)) (m (c, Proc.tc.devRef main_arg2) (ix3 b j k)) := by
  entry_read
  pointwise

/-- A host array at an index. -/
theorem host_a3 (c : Dev nD) (b : Fin 4) (j : Fin 8192) (k : Fin 256) :
    @Eq EReal (V m c main_v3 (ix3 b j k)) (m (c, Proc.tc.devRef main_arg3) (ix3 b j k)) := by
  entry_read
  pointwise

/-- A host array at an index. -/
theorem host_wo (c : Dev nD) (r : Fin 1024) (k : Fin 1024) :
    @Eq EReal (V m c main_v10 (ix3 1 r k)) (m (c, Proc.tc.devRef main_arg6) (ix3 1 r k)) := by
  entry_read
  pointwise

/-- A host array at an index. -/
theorem host_wup (c : Dev nD) (r : Fin 1024) (k : Fin 5632) :
    @Eq EReal (V m c main_v11 (ix3 1 r k)) (m (c, Proc.tc.devRef main_arg10) (ix3 1 r k)) := by
  entry_read
  pointwise

/-- A host array at an index. -/
theorem host_wd (c : Dev nD) (r : Fin 2816) (k : Fin 1024) :
    @Eq EReal (V m c main_v12 (ix3 1 r k)) (m (c, Proc.tc.devRef main_arg13) (ix3 1 r k)) := by
  entry_read
  pointwise

/-- A host array at an index. -/
theorem host_gpm (c : Dev nD) (k : Fin 1024) :
    @Eq EReal (V m c main_v7 (ix3 1 0 k)) (m (c, Proc.tc.devRef main_arg7) (ix2 1 k)) := by
  entry_read
  pointwise

/-- A host array at an index. -/
theorem host_gpf (c : Dev nD) (k : Fin 1024) :
    @Eq EReal (V m c main_v8 (ix3 1 0 k)) (m (c, Proc.tc.devRef main_arg8) (ix2 1 k)) := by
  entry_read
  pointwise

/-- A host array at an index. -/
theorem host_gpost (c : Dev nD) (k : Fin 1024) :
    @Eq EReal (V m c main_v9 (ix3 1 0 k)) (m (c, Proc.tc.devRef main_arg9) (ix2 1 k)) := by
  entry_read
  pointwise

/-- A host array at an index. -/
theorem host_mod (c : Dev nD) (b' : Fin 8) (b : Fin 4) (hb : b'.val = b.val) (k : Fin 6144) :
    @Eq EReal (V m c main_v6 (ix4 1 b' 0 k)) (m (c, Proc.tc.devRef main_arg5) (ix3 1 b k)) := by
  entry_read
  pointwise
  have h4 : b'.val < 4 := by omega
  simp only [dif_pos h4]
  exact congrArg (fun z : Fin 4 => m (c, Proc.tc.devRef main_arg5) (ix3 1 z k)) (Fin.ext hb)

/-- A host array at an index. -/
theorem host_cwa (c : Dev nD) (t : Fin 3) (f : Fin 5632) (hf : f.val < 2816) :
    @Eq EReal (V m c main_v18 (ix3 1 t f)) (m (c, Proc.tc.devRef main_arg11) (ix3 1 t f)) := by
  entry_read
  pointwise
  simp only [dif_pos hf]
  exact mul_one _

/-- A host array at an index. -/
theorem host_cwg (c : Dev nD) (t : Fin 3) (f : Fin 5632) (hf : 2816 ≤ f.val) :
    @Eq EReal (V m c main_v18 (ix3 1 t f)) (@HMul.hMul EReal EReal EReal _ (m (c, Proc.tc.devRef main_arg11) (ix3 1 t f)) ((1 / 2 : ℝ) : EReal)) := by
  entry_read
  pointwise
  simp only [dif_neg (show ¬f.val < 2816 by omega)]
  exact congrArg (fun z : EReal => _ * z) half_word

/-- A host array at an index. -/
theorem host_cba (c : Dev nD) (f : Fin 5632) (hf : f.val < 2816) :
    @Eq EReal (V m c main_v22 (ix3 1 0 f)) (m (c, Proc.tc.devRef main_arg12) (ix2 1 f)) := by
  entry_read
  pointwise
  simp only [dif_pos hf]
  exact mul_one _

/-- A host array at an index. -/
theorem host_cbg (c : Dev nD) (f : Fin 5632) (hf : 2816 ≤ f.val) :
    @Eq EReal (V m c main_v22 (ix3 1 0 f)) (@HMul.hMul EReal EReal EReal _ (m (c, Proc.tc.devRef main_arg12) (ix2 1 f)) ((1 / 2 : ℝ) : EReal)) := by
  entry_read
  pointwise
  simp only [dif_neg (show ¬f.val < 2816 by omega)]
  exact congrArg (fun z : EReal => _ * z) half_word

end Cert.Mix
end
-- ==== Proof.MixRef.lean ====
module

public import proofs.«01_k».proof.Proof.Gen.Reference2Ideal.Read
public import proofs.«01_k».proof.Proof.MixLayer
public import Idealize.ShloMosaic.Lib.Pointwise

/-! The reference's stages, row by row: it computes the layer's end. -/

@[expose] public section

set_option maxRecDepth 16384

noncomputable section

namespace Cert.Mix

open Cert.Reference2Ideal Cert.Reference2Ideal.Gen Cert.Reference2Ideal.Read Idealize.ShloMosaic Idealize.ShloMosaic.StableHlo

section
variable (x0 : FVec Ideal S4x8192x256 .f32) (x1 : FVec Ideal S4x8192x256 .f32) (x2 : FVec Ideal S4x8192x256 .f32) (x3 : FVec Ideal S4x8192x256 .f32) (x4 : FVec Ideal S4x8192x1024 .f32) (x5 : FVec Ideal S2x4x6144 .f32) (x6 : FVec Ideal S2x1024x1024 .f32) (x7 : FVec Ideal S2x1024 .f32) (x8 : FVec Ideal S2x1024 .f32) (x9 : FVec Ideal S2x1024 .f32) (x10 : FVec Ideal S2x1024x5632 .f32) (x11 : FVec Ideal S2x3x5632 .f32) (x12 : FVec Ideal S2x5632 .f32) (x13 : FVec Ideal S2x2816x1024 .f32) (b : Fin 4)

/-- The projection of the mixers' outputs. -/
theorem v12_at (n : Fin 8192) (e : Fin 1024) :
    @Eq EReal (val_main_v12 (F := Ideal) x0 x1 x2 x3 x6 (ix3 b n e)) ((layerOf x0 x1 x2 x3 x4 x5 x6 x7 x8 x9 x10 x11 x12 x13 b).proj n e) := by
  pointwise [val_main_v9, val_main_v10, val_main_v11, val_main_v12]
  refine (sum_four _).trans ?_
  unfold Layer.proj
  refine congrArg₂ _ (congrArg₂ _ (congrArg₂ _ ?_ ?_) ?_) ?_
  all_goals
    refine Finset.sum_congr rfl fun k _ => congrArg (fun z : EReal => z * _) ?_
    dsimp only [layerOf]
    split_ifs
  all_goals first
    | (exfalso; omega)
    | exact congrArg (fun z => x0 (ix3 b n z)) (Fin.ext (by dsimp only))
    | exact congrArg (fun z => x1 (ix3 b n z)) (Fin.ext (by dsimp only; omega))
    | exact congrArg (fun z => x2 (ix3 b n z)) (Fin.ext (by dsimp only; omega))
    | exact congrArg (fun z => x3 (ix3 b n z)) (Fin.ext (by dsimp only; omega))

/-- The latents after the mixers. -/
theorem v30_at (n : Fin 8192) (e : Fin 1024) :
    @Eq EReal (val_main_v30 (F := Ideal) x0 x1 x2 x3 x4 x5 x6 x7 (ix3 b n e)) ((layerOf x0 x1 x2 x3 x4 x5 x6 x7 x8 x9 x10 x11 x12 x13 b).mid n e) := by
  have h := v12_at x0 x1 x2 x3 x4 x5 x6 x7 x8 x9 x10 x11 x12 x13 b n
  dsimp only [val_main_v13, val_main_v14, val_main_v15, val_main_cst, val_main_v16, val_main_v17, val_main_cst_0, val_main_v18, val_main_v19, val_main_cst_1, val_main_v20, val_main_v21, val_main_v22, val_main_v23, val_main_v24, val_main_v25, val_main_v26, val_main_v27, val_main_v28, val_main_v29, val_main_v30]
  generalize val_main_v12 (F := Ideal) x0 x1 x2 x3 x6 = M at *
  unfold Layer.mid
  rw [← funext h]
  pointwise [val_main_v0, val_main_v1, val_main_v2, val_main_v3, val_main_v4, val_main_v5, layerOf, resid, rms]

/-- The feed-forward's input. -/
theorem v51_at (n : Fin 8192) (e : Fin 1024) :
    @Eq EReal (val_main_v51 (F := Ideal) x0 x1 x2 x3 x4 x5 x6 x7 x8 (ix3 b n e)) ((layerOf x0 x1 x2 x3 x4 x5 x6 x7 x8 x9 x10 x11 x12 x13 b).hx n e) := by
  have h := v30_at x0 x1 x2 x3 x4 x5 x6 x7 x8 x9 x10 x11 x12 x13 b n
  dsimp only [val_main_v31, val_main_v32, val_main_v33, val_main_cst_2, val_main_v34, val_main_v35, val_main_cst_3, val_main_v36, val_main_v37, val_main_cst_4, val_main_v38, val_main_v39, val_main_v40, val_main_v41, val_main_v42, val_main_v43, val_main_v44, val_main_v45, val_main_cst_5, val_main_v46, val_main_v47, val_main_v48, val_main_v49, val_main_v50, val_main_v51]
  generalize val_main_v30 (F := Ideal) x0 x1 x2 x3 x4 x5 x6 x7 = M at *
  unfold Layer.hx
  rw [← funext h]
  pointwise [val_main_v0, val_main_v1, val_main_v2, val_main_v6, val_main_v7, layerOf, modul, rms]

/-- The up projection. -/
theorem v60_at (n : Fin 8192) (f : Fin 5632) :
    @Eq EReal (val_main_v60 (F := Ideal) x0 x1 x2 x3 x4 x5 x6 x7 x8 x10 (ix3 b n f)) ((layerOf x0 x1 x2 x3 x4 x5 x6 x7 x8 x9 x10 x11 x12 x13 b).up n f) := by
  have h := v51_at x0 x1 x2 x3 x4 x5 x6 x7 x8 x9 x10 x11 x12 x13 b n
  unfold val_main_v60
  generalize val_main_v51 (F := Ideal) x0 x1 x2 x3 x4 x5 x6 x7 x8 = M at *
  unfold Layer.up
  rw [← funext h]
  pointwise [val_main_v52, val_main_v53, layerOf]

/-- The convolution. -/
theorem v84_at (n : Fin 8192) (f : Fin 5632) :
    @Eq EReal (val_main_v84 (F := Ideal) x0 x1 x2 x3 x4 x5 x6 x7 x8 x10 x11 x12 (ix3 b n f)) ((layerOf x0 x1 x2 x3 x4 x5 x6 x7 x8 x9 x10 x11 x12 x13 b).cv n f) := by
  have h := fun n => v60_at x0 x1 x2 x3 x4 x5 x6 x7 x8 x9 x10 x11 x12 x13 b n f
  dsimp only [val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84]
  generalize val_main_v60 (F := Ideal) x0 x1 x2 x3 x4 x5 x6 x7 x8 x10 = M at *
  unfold Layer.cv Layer.pad
  simp only [← h]
  pointwise [val_main_v54, val_main_v55, val_main_v56, val_main_v57, layerOf, conv]
  have hz : ∀ i, @Eq EReal (val_main_call0_v0 (F := Ideal) i) 0 := fun i => by
    pointwise [val_main_call0_v0, val_main_c]
    show (((0#32 : BitVec 32).toInt : ℝ) : EReal) = 0
    simp
  refine congrArg₂ _ (congrArg₂ _ (congrArg₂ _ rfl ?_) ?_) ?_
  all_goals refine (mul_comm _ _).trans (congrArg (fun z : EReal => _ * z) ?_)
  · rw [hz]
  · rw [dif_pos (show n.val + 1 - 1 < 8192 by omega)]
    exact congrArg (fun z => M (ix3 b z f)) (Fin.ext (by dsimp only; omega))
  · rw [hz]
    split_ifs
    all_goals first
      | (exfalso; omega)
      | exact congrArg (fun z => M (ix3 b z f)) (Fin.ext (by dsimp only; omega))
      | rfl

/-- The gated columns. -/
theorem v100_at (n : Fin 8192) (f : Fin 2816) :
    @Eq EReal (val_main_v100 (F := Ideal) x0 x1 x2 x3 x4 x5 x6 x7 x8 x10 x11 x12 (ix3 b n f)) ((layerOf x0 x1 x2 x3 x4 x5 x6 x7 x8 x9 x10 x11 x12 x13 b).gate n f) := by
  have h := v84_at x0 x1 x2 x3 x4 x5 x6 x7 x8 x9 x10 x11 x12 x13 b n
  dsimp only [val_main_v85, val_main_v86, val_main_v87, val_main_v88, val_main_cst_6, val_main_v89, val_main_v90, val_main_v91, val_main_cst_7, val_main_v92, val_main_v93, val_main_v94, val_main_cst_8, val_main_v95, val_main_v96, val_main_cst_9, val_main_v97, val_main_v98, val_main_v99, val_main_v100]
  generalize val_main_v84 (F := Ideal) x0 x1 x2 x3 x4 x5 x6 x7 x8 x10 x11 x12 = M at *
  unfold Layer.gate
  simp only [← h]
  pointwise [gateR]

/-- The reference's result. -/
theorem v119_at (n : Fin 8192) (e : Fin 1024) :
    @Eq EReal (val_main_v119 (F := Ideal) x0 x1 x2 x3 x4 x5 x6 x7 x8 x9 x10 x11 x12 x13 (ix3 b n e)) ((layerOf x0 x1 x2 x3 x4 x5 x6 x7 x8 x9 x10 x11 x12 x13 b).out n e) := by
  have h := v100_at x0 x1 x2 x3 x4 x5 x6 x7 x8 x9 x10 x11 x12 x13 b n
  have h' := v30_at x0 x1 x2 x3 x4 x5 x6 x7 x8 x9 x10 x11 x12 x13 b n
  dsimp only [val_main_v101, val_main_v102, val_main_v103, val_main_v104, val_main_cst_10, val_main_v105, val_main_v106, val_main_cst_11, val_main_v107, val_main_v108, val_main_cst_12, val_main_v109, val_main_v110, val_main_v111, val_main_v112, val_main_v113, val_main_v114, val_main_v115, val_main_v116, val_main_v117, val_main_v118, val_main_v119]
  generalize val_main_v100 (F := Ideal) x0 x1 x2 x3 x4 x5 x6 x7 x8 x10 x11 x12 = M at *
  generalize val_main_v30 (F := Ideal) x0 x1 x2 x3 x4 x5 x6 x7 = M' at *
  unfold Layer.out
  rw [← funext h', show (fun e => _) = _ from funext fun e => Finset.sum_congr rfl fun f _ => congrArg (fun z : EReal => z * _) (h f).symm]
  pointwise [val_main_v0, val_main_v1, val_main_v2, val_main_v8, val_main_v58, val_main_v59, layerOf, resid, rms]

end

end Cert.Mix
end
-- ==== Proof.MixFinal.lean ====
module

public import proofs.«01_k».proof.Defs
public import proofs.«01_k».proof.Proof.MixBlock
public import proofs.«01_k».proof.Proof.MixHost
public import proofs.«01_k».proof.Proof.MixRef

/-! The kernel's result array is the layer's end, and so is the reference's. -/

@[expose] public section

set_option maxRecDepth 16384

noncomputable section

namespace Cert.Mix

open Idealize.ShloMosaic Idealize.ShloMosaic.TcCoe Idealize.SL.Sem Cert.Kernel2Ideal Cert.Kernel2Ideal.Gen Cert.Kernel2Ideal.Mix Cert.Kernel2Ideal.MixValue

section
variable (m : (ℓ : Loc nD τ sig) → Buf (Elt Ideal) ℓ) (c : Dev nD)

/-- The layer's end for one sample, from the kernel's arguments. -/
abbrev layerK (b : Fin 4) : Layer :=
  layerOf (m (c, Proc.tc.devRef main_arg0)) (m (c, Proc.tc.devRef main_arg1)) (m (c, Proc.tc.devRef main_arg2)) (m (c, Proc.tc.devRef main_arg3)) (m (c, Proc.tc.devRef main_arg4)) (m (c, Proc.tc.devRef main_arg5)) (m (c, Proc.tc.devRef main_arg6)) (m (c, Proc.tc.devRef main_arg7)) (m (c, Proc.tc.devRef main_arg8)) (m (c, Proc.tc.devRef main_arg9)) (m (c, Proc.tc.devRef main_arg10)) (m (c, Proc.tc.devRef main_arg11)) (m (c, Proc.tc.devRef main_arg12)) (m (c, Proc.tc.devRef main_arg13)) b

/-- The second grid coordinate. -/
theorem coord1 : ∀ t : Fin cfg0.N, (grid0.coords t 1).val = t.val % 16 :=
  (by decide +kernel : ∀ t : Fin grid0.N, (grid0.coords t 1).val = t.val % 16)

/-- The blocks a grid point reads are the layer's. -/
theorem blocks (t : Fin cfg0.N) (b : Fin 4) (hb : b.val = t.val / 16) (i : Fin 16) (hi : i.val = t.val % 16) :
    Blocks (layerK m c b) i (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) where
  h0 := ⟨fun r j k h => (rd0 c (V m c) t b hb r j k (by omega)).trans (host_a0 m c b j k),
      fun r j k h => (rd1 c (V m c) t b hb r j k (by omega)).trans (host_a0 m c b j k),
      fun r j k h => (rd2 c (V m c) t b hb r j k (by omega)).trans (host_a0 m c b j k)⟩
  h1 := ⟨fun r j k h => (rd3 c (V m c) t b hb r j k (by omega)).trans (host_a1 m c b j k),
      fun r j k h => (rd4 c (V m c) t b hb r j k (by omega)).trans (host_a1 m c b j k),
      fun r j k h => (rd5 c (V m c) t b hb r j k (by omega)).trans (host_a1 m c b j k)⟩
  h2 := ⟨fun r j k h => (rd6 c (V m c) t b hb r j k (by omega)).trans (host_a2 m c b j k),
      fun r j k h => (rd7 c (V m c) t b hb r j k (by omega)).trans (host_a2 m c b j k),
      fun r j k h => (rd8 c (V m c) t b hb r j k (by omega)).trans (host_a2 m c b j k)⟩
  h3 := ⟨fun r j k h => (rd9 c (V m c) t b hb r j k (by omega)).trans (host_a3 m c b j k),
      fun r j k h => (rd10 c (V m c) t b hb r j k (by omega)).trans (host_a3 m c b j k),
      fun r j k h => (rd11 c (V m c) t b hb r j k (by omega)).trans (host_a3 m c b j k)⟩
  hx := ⟨fun r j k h => (rd12 c (V m c) t b hb r j k (by omega)).trans (congrFun (V_main_arg4 m c) (ix3 b j k)),
      fun r j k h => (rd13 c (V m c) t b hb r j k (by omega)).trans (congrFun (V_main_arg4 m c) (ix3 b j k)),
      fun r j k h => (rd14 c (V m c) t b hb r j k (by omega)).trans (congrFun (V_main_arg4 m c) (ix3 b j k))⟩
  wo k e := (rd15 c (V m c) t k e).trans (host_wo m c k e)
  gpm e := (rd16 c (V m c) t e).trans (host_gpm m c e)
  gt1 e := (rd17 c (V m c) t b hb ⟨b.val, by omega⟩ rfl e).trans (host_mod m c _ b rfl _)
  gpf e := (rd18 c (V m c) t e).trans (host_gpf m c e)
  sc e := (rd19 c (V m c) t b hb ⟨b.val, by omega⟩ rfl e).trans (host_mod m c _ b rfl _)
  sh e := (rd20 c (V m c) t b hb ⟨b.val, by omega⟩ rfl e).trans (host_mod m c _ b rfl _)
  wup e f := (rd21 c (V m c) t e f).trans (host_wup m c e f)
  cwa s f hf := (rd22 c (V m c) t s f).trans (host_cwa m c s f hf)
  cwg s f hf := (rd22 c (V m c) t s f).trans (host_cwg m c s f hf)
  cba f hf := (rd23 c (V m c) t f).trans (host_cba m c f hf)
  cbg f hf := (rd23 c (V m c) t f).trans (host_cbg m c f hf)
  wd f e := (rd24 c (V m c) t f e).trans (host_wd m c f e)
  gpost e := (rd25 c (V m c) t e).trans (host_gpost m c e)
  gt2 e := (rd26 c (V m c) t b hb ⟨b.val, by omega⟩ rfl e).trans (host_mod m c _ b rfl _)

/-- Which block of the result a grid point writes. -/
theorem idx27 : ∀ t : Fin cfg0.N, win0_27.index t = ![t.val / 16, t.val % 16, 0] :=
  (by decide +kernel : ∀ t : Fin grid0.N, _)

/-- The result's block at an index. -/
theorem rd27 (A : Buf (Elt Ideal) ((c : Thread nD τ).loc (Pipeline.arrRef spec0 27))) (t : Fin cfg0.N) (b : Fin 4) (hb : b.val = t.val / 16) (q : Fin 512) (n : Fin 8192)
    (hn : n.val = 512 * (t.val % 16) + q.val) (e : Fin 1024) :
    ((cfg0.win 27).blk t).view.read (Elt Ideal) A (ix3 0 q e) = A (ix3 b n e) := by
  blk_ext [idx27 t]

/-- No part of a written block is cut away. -/
theorem cut27 (t : Fin cfg0.N) (Y : Vec Ideal S1x512x1024 .f32) (q : Fin 512) (e : Fin 1024) :
    @Eq EReal ((cfg0.win 27).cut (grid0.coords t) Y (ix3 0 q e)) (Y (ix3 0 q e)) := rfl

/-- The kernel's result. -/
theorem result (b : Fin 4) (n : Fin 8192) (e : Fin 1024) :
    @Eq EReal ((dats m 0 c).arrAt 27 cfg0.N (ix3 b n e)) ((layerK m c b).out n e) := by
  have hN : cfg0.N = 64 := N_0
  obtain ⟨t, ht⟩ : ∃ t : Fin cfg0.N, t.val = 16 * b.val + n.val / 512 := ⟨⟨16 * b.val + n.val / 512, by omega⟩, rfl⟩
  obtain ⟨q, hq⟩ : ∃ q : Fin 512, q.val = n.val % 512 := ⟨⟨n.val % 512, by omega⟩, rfl⟩
  have hi := coord1 t
  refine (rd27 c _ t b (by omega) q n (by omega) e).symm.trans ?_
  refine (congrFun (blocks27 m c t (flush0_27 t)) (ix3 0 q e)).trans ?_
  rw [flushed27_A]
  refine (cut27 t _ q e).trans ?_
  rw [out_eq]
  exact (blocks m c t b (by omega) (grid0.coords t 1) hi).out q n (by omega) e

end

open Cert.Kernel2Ideal in
/-- The kernel's result is the reference's function of the same arrays. -/
theorem final (m : (ℓ : Loc nD τ sig) → Buf (Elt Ideal) ℓ) (c : Dev nD) (x0 x1 x2 x3 x4 x5 x6 x7 x8 x9 x10 x11 x12 x13) (e0 : x0 = m (c, Proc.tc.devRef main_arg0)) (e1 : x1 = m (c, Proc.tc.devRef main_arg1)) (e2 : x2 = m (c, Proc.tc.devRef main_arg2)) (e3 : x3 = m (c, Proc.tc.devRef main_arg3)) (e4 : x4 = m (c, Proc.tc.devRef main_arg4)) (e5 : x5 = m (c, Proc.tc.devRef main_arg5)) (e6 : x6 = m (c, Proc.tc.devRef main_arg6)) (e7 : x7 = m (c, Proc.tc.devRef main_arg7)) (e8 : x8 = m (c, Proc.tc.devRef main_arg8)) (e9 : x9 = m (c, Proc.tc.devRef main_arg9)) (e10 : x10 = m (c, Proc.tc.devRef main_arg10)) (e11 : x11 = m (c, Proc.tc.devRef main_arg11)) (e12 : x12 = m (c, Proc.tc.devRef main_arg12)) (e13 : x13 = m (c, Proc.tc.devRef main_arg13)) :
    (dats m 0 c).arrAt 27 cfg0.N = Cert.Reference2Ideal.Read.val_main_v119 (F := Ideal) x0 x1 x2 x3 x4 x5 x6 x7 x8 x9 x10 x11 x12 x13 := by
  subst e0 e1 e2 e3 e4 e5 e6 e7 e8 e9 e10 e11 e12 e13
  funext i
  obtain ⟨b, n, e, rfl⟩ : ∃ (b : Fin 4) (n : Fin 8192) (e : Fin 1024), i = ix3 b n e := ⟨i 0, i 1, i 2, (ix3_eta i).symm⟩
  exact (result m c b n e).trans (v119_at _ _ _ _ _ _ _ _ _ _ _ _ _ _ b n e).symm

/-- The layer's end: the two programs end with equal results. -/
theorem algebraic : Cert.algebraic_Kernel2Ideal_Reference2Ideal := by
  pair_intro
  · run_from Cert.Kernel2Ideal.MixValue.run_blocks m g
  · run_from Cert.Reference2Ideal.Value.run m' g'
    obtain ⟨h0, h1, h2, h3, h4, h5, h6, h7, h8, h9, h10, h11, h12, h13⟩ := hagree c
    refine Eq.trans ?_ (final m c _ _ _ _ _ _ _ _ _ _ _ _ _ _ h0 h1 h2 h3 h4 h5 h6 h7 h8 h9 h10 h11 h12 h13).symm
    rw [← h9]
    exact Cert.Reference2Ideal.Read.val_main_v119_eq (F := Ideal) (StableHlo.launchContents m' c)

end Cert.Mix
end
-- ==== Proof.InPay.lean ====
module

public import proofs.«01_k».proof.Proof.Gen.Kernel3Ideal.Skeleton
public import proofs.«01_k».proof.Proof.MixMath

/-! The input projections' arithmetic at an index. -/

@[expose] public section

set_option maxRecDepth 16384

noncomputable section

namespace Cert.In

open Idealize.ShloMosaic Cert.Kernel3Ideal Cert.Kernel3Ideal.Gen Cert.Mix

section
variable (x : FVec Ideal S512x1024 .f32) (g : FVec Ideal S1x1x1024 .f32) (sc sh : FVec Ideal S1x1x1x1024 .f32) (r : Fin 512)

/-- A row of half a block, normalised, scaled and shifted. -/
def half (e : Fin 1024) : EReal :=
  modul (fun e => x (ix2 r e)) (fun e => g (ix3 0 0 e)) (fun e => sc (ix4 0 0 0 e)) (fun e => sh (ix4 0 0 0 e)) e

/-- The first half's modulated rows. -/
theorem pay2_at (e : Fin 1024) : @Eq EReal (k0_pay2 (F := Ideal) x g sc sh (ix2 r e)) (half x g sc sh r e) := by
  pointwise [k0_pay2, half, modul, rms]

/-- The second half's modulated rows. -/
theorem pay9_at (e : Fin 1024) : @Eq EReal (k0_pay9 (F := Ideal) (k0_pay8 x g) sc sh (ix2 r e)) (half x g sc sh r e) := by
  pointwise [k0_pay9, k0_pay8, half, modul, rms]

/-- The gated linear attention's columns, first half. -/
theorem pay4_at (w : FVec Ideal S1x1024x1024 .bf16) (k : Fin 1024) :
    @Eq EReal (k0_pay4 (F := Ideal) x g sc sh w (ix2 r k)) (∑ e, half x g sc sh r e * w (ix3 0 e k)) := by
  simp only [← pay2_at]
  unfold k0_pay4
  generalize k0_pay2 (F := Ideal) x g sc sh = B
  pointwise

/-- The S5 mixer's columns, first half. -/
theorem pay5_at (w : FVec Ideal S1x1024x256 .bf16) (k : Fin 256) :
    @Eq EReal (k0_pay5 (F := Ideal) (k0_pay2 x g sc sh) w (ix2 r k)) (∑ e, half x g sc sh r e * w (ix3 0 e k)) := by
  simp only [← pay2_at]
  generalize k0_pay2 (F := Ideal) x g sc sh = B
  pointwise [k0_pay5]

/-- The decay's columns, first half. -/
theorem pay6_at (w : FVec Ideal S1x1024x128 .bf16) (k : Fin 128) :
    @Eq EReal (k0_pay6 (F := Ideal) (k0_pay2 x g sc sh) w (ix2 r k)) (∑ e, half x g sc sh r e * w (ix3 0 e k)) := by
  simp only [← pay2_at]
  generalize k0_pay2 (F := Ideal) x g sc sh = B
  pointwise [k0_pay6]

/-- The gated linear attention's columns, second half. -/
theorem pay11_at (w : FVec Ideal S1x1024x1024 .bf16) (k : Fin 1024) :
    @Eq EReal (k0_pay11 (F := Ideal) (k0_pay8 x g) sc sh w (ix2 r k)) (∑ e, half x g sc sh r e * w (ix3 0 e k)) := by
  simp only [← pay9_at]
  unfold k0_pay11
  generalize k0_pay9 (F := Ideal) (k0_pay8 x g) sc sh = B
  pointwise

/-- The S5 mixer's columns, second half. -/
theorem pay12_at (w : FVec Ideal S1x1024x256 .bf16) (k : Fin 256) :
    @Eq EReal (k0_pay12 (F := Ideal) (k0_pay8 x g) sc sh w (ix2 r k)) (∑ e, half x g sc sh r e * w (ix3 0 e k)) := by
  simp only [← pay9_at]
  unfold k0_pay12
  generalize k0_pay9 (F := Ideal) (k0_pay8 x g) sc sh = B
  pointwise

/-- The decay's columns, second half. -/
theorem pay13_at (w : FVec Ideal S1x1024x128 .bf16) (k : Fin 128) :
    @Eq EReal (k0_pay13 (F := Ideal) (k0_pay8 x g) sc sh w (ix2 r k)) (∑ e, half x g sc sh r e * w (ix3 0 e k)) := by
  simp only [← pay9_at]
  unfold k0_pay13
  generalize k0_pay9 (F := Ideal) (k0_pay8 x g) sc sh = B
  pointwise

end

end Cert.In
end
-- ==== Proof.InOut.lean ====
module

public import proofs.«01_k».proof.Proof.Gen.Kernel3Ideal.Value
public import proofs.«01_k».proof.Proof.InPay
public import Idealize.ShloMosaic.Lib.Pipeline.ValueKit
public import Idealize.ShloMosaic.Lib.Pointwise
public import Idealize.ShloMosaic.Lib.Pipeline.ReadBack

/-! What one grid point of the input projections writes, in terms of the blocks it reads. -/

@[expose] public section

set_option maxRecDepth 16384
set_option maxHeartbeats 4000000

noncomputable section

namespace Cert.In

open Cert.Kernel3Ideal Cert.Kernel3Ideal.Gen Idealize.ShloMosaic Idealize.ShloMosaic.TcCoe Idealize.SL.Sem Cert.Mix

/-- Half of the latents' block: 512 rows from row `o` on. -/
abbrev ldX (x : Vec Ideal S1024x1024 .f32) (o : ℕ) (h : ∀ a, ![o, 0] a + ![512, 1024] a ≤ S1024x1024.size a) : FVec Ideal S512x1024 .f32 :=
  View.ld (Val := Elt Ideal) x (Rect.unit (s := S1024x1024) ![o, 0] ![512, 1024] h)

/-- `C` columns of the weight from column `o` on. -/
abbrev ldP (C : ℕ) (w : Vec Ideal S1x1024x2304 .bf16) (o : ℕ) (h : ∀ a, ![0, 0, o] a + ![1, 1024, C] a ≤ S1x1024x2304.size a) :
    FVec Ideal ⟨3, ![1, 1024, C]⟩ .bf16 :=
  View.ld (Val := Elt Ideal) w (Rect.unit (s := S1x1024x2304) ![0, 0, o] ![1, 1024, C] h)

theorem ld_x (x : Vec Ideal S1024x1024 .f32) (o : ℕ) (h : ∀ a, ![o, 0] a + ![512, 1024] a ≤ S1024x1024.size a) (q : Fin 512) (e : Fin 1024)
    (r : Fin 1024) (hr : r.val = o + q.val) : @Eq EReal (ldX x o h (ix2 q e)) (x (ix2 r e)) := by
  refine congrArg x (funext fun a => Fin.ext ?_)
  match a with
  | 0 => show o + 1 * q.val = r.val; omega
  | 1 => show 0 + 1 * e.val = e.val; omega

theorem ld_p {C : ℕ} (w : Vec Ideal S1x1024x2304 .bf16) (o : ℕ) (h : ∀ a, ![0, 0, o] a + ![1, 1024, C] a ≤ S1x1024x2304.size a) (e : Fin 1024) (k : Fin C)
    (f : Fin 2304) (hf : f.val = o + k.val) : @Eq EReal (ldP C w o h (ix3 0 e k)) (w (ix3 0 e f)) := by
  refine congrArg w (funext fun a => Fin.ext ?_)
  match a with
  | 0 => rfl
  | 1 => show 0 + 1 * e.val = e.val; omega
  | 2 => show o + 1 * k.val = f.val; omega

/-- A column of the weight at a modulated row of the block. -/
def proj (x : Vec Ideal S1024x1024 .f32) (g : Vec Ideal S1x1x1024 .f32) (sc sh : Vec Ideal S1x1x1x1024 .f32) (w : Vec Ideal S1x1024x2304 .bf16)
    (r : Fin 1024) (f : Fin 2304) : EReal :=
  ∑ e, modul (fun e => x (ix2 r e)) (fun e => g (ix3 0 0 e)) (fun e => sc (ix4 0 0 0 e)) (fun e => sh (ix4 0 0 0 e)) e * w (ix3 0 e f)

/-- A slab's columns at half the rows. -/
theorem half_proj (x : Vec Ideal S1024x1024 .f32) (g : Vec Ideal S1x1x1024 .f32) (sc sh : Vec Ideal S1x1x1x1024 .f32) (w : Vec Ideal S1x1024x2304 .bf16)
    {C : ℕ} (o p : ℕ) (hx : ∀ a, ![o, 0] a + ![512, 1024] a ≤ S1024x1024.size a) (hw : ∀ a, ![0, 0, p] a + ![1, 1024, C] a ≤ S1x1024x2304.size a)
    (q : Fin 512) (k : Fin C) (r : Fin 1024) (hr : r.val = o + q.val) (f : Fin 2304) (hf : f.val = p + k.val) :
    (∑ e, half (ldX x o hx) g sc sh q e * (ldP C w p hw (ix3 0 e k) : EReal)) = proj x g sc sh w r f := by
  unfold half proj
  rw [funext fun e => ld_x x o hx q e r hr]
  exact Finset.sum_congr rfl fun e _ => congrArg (fun z : EReal => _ * z) (ld_p w p hw e k f hf)

/-- Two stores of 512 rows each make a block of 1024 rows. -/
theorem halves (C : ℕ) (G : (⟨2, ![1024, C]⟩ : Shape).Idx → Elt Ideal .bf16)
    (h1 : ∀ a, ![512, 0] a + ![512, C] a ≤ (⟨2, ![1024, C]⟩ : Shape).size a) (h2 : ∀ a, ![0, 0] a + ![512, C] a ≤ (⟨2, ![1024, C]⟩ : Shape).size a)
    (A B : (⟨2, ![512, C]⟩ : Shape).Idx → Elt Ideal .bf16)
    (hA : ∀ (q : Fin 512) (k : Fin C), @Eq EReal (A (ix2 q k)) (G (ix2 ⟨512 + q.val, by omega⟩ k)))
    (hB : ∀ (q : Fin 512) (k : Fin C), @Eq EReal (B (ix2 q k)) (G (ix2 ⟨q.val, by omega⟩ k))) :
    View.canon [⟨Rect.unit (s := ⟨2, ![1024, C]⟩) ![512, 0] ![512, C] h1, A⟩, ⟨Rect.unit (s := ⟨2, ![1024, C]⟩) ![0, 0] ![512, C] h2, B⟩] = G := by
  funext j
  refine (congrArg (fun L => View.canon L j) (List.append_nil _).symm).trans (View.canon_append_of_piecesOf G [] _ ?_ j ?_)
  refine ⟨fun y => ?_, fun y => ?_, trivial⟩
  · rw [show (y : (⟨2, ![512, C]⟩ : Shape).Idx) = ix2 (y 0) (y 1) from eq_ix2 y]
    refine (hA (y 0) (y 1)).trans (congrArg G (funext fun a => Fin.ext ?_))
    match a with
    | 0 => show 512 + (y 0).val = 512 + 1 * (y 0).val; omega
    | 1 => show (y 1).val = 0 + 1 * (y 1).val; omega
  · rw [show (y : (⟨2, ![512, C]⟩ : Shape).Idx) = ix2 (y 0) (y 1) from eq_ix2 y]
    refine (hB (y 0) (y 1)).trans (congrArg G (funext fun a => Fin.ext ?_))
    match a with
    | 0 => show (y 0).val = 0 + 1 * (y 0).val; omega
    | 1 => show (y 1).val = 0 + 1 * (y 1).val; omega
  · have hj0 : (j 0).val < 1024 := (j 0).isLt
    have hj1 : (j 1).val < C := (j 1).isLt
    by_cases hj : (j 0).val < 512
    · refine ⟨_, List.mem_cons_of_mem _ List.mem_cons_self, (Rect.mem_set_unit (inb := h2)).mpr fun a => ?_⟩
      match a with
      | 0 => exact ⟨Nat.zero_le _, show (j 0).val < 0 + 512 by omega⟩
      | 1 => exact ⟨Nat.zero_le _, show (j 1).val < 0 + C by omega⟩
    · refine ⟨_, List.mem_cons_self, (Rect.mem_set_unit (inb := h1)).mpr fun a => ?_⟩
      match a with
      | 0 => exact ⟨show 512 ≤ (j 0).val by omega, show (j 0).val < 512 + 512 by omega⟩
      | 1 => exact ⟨Nat.zero_le _, show (j 1).val < 0 + C by omega⟩

section
variable {c : Dev nD} {i : grid0.Coords} {arg1 : Memref sig .tc .vmem S1024x1024 .f32} {harg1 : arg1.IsWhole} {arg2 : Memref sig .tc .vmem S1x1x1024 .f32}
    {harg2 : arg2.IsWhole} {arg3 : Memref sig .tc .vmem S1x1x1x1024 .f32} {harg3 : arg3.IsWhole} {arg4 : Memref sig .tc .vmem S1x1x1x1024 .f32} {harg4 : arg4.IsWhole}
    {arg5 : Memref sig .tc .vmem S1x1024x2304 .bf16} {harg5 : arg5.IsWhole} {arg6 : Memref sig .tc .vmem S1x1x256 .f32} {harg6 : arg6.IsWhole}
    {arg7 : Memref sig .tc .vmem S1x512x128 .bf16} {harg7 : arg7.IsWhole} {arg8 : Memref sig .tc .vmem S1x128x256 .f32} {harg8 : arg8.IsWhole}
    {arg9 : Memref sig .tc .vmem S256x256 .bf16} {harg9 : arg9.IsWhole} {arg10 : Memref sig .tc .vmem S1x1x256 .f32} {harg10 : arg10.IsWhole}
    {arg11 : Memref sig .tc .vmem S1x1x128 .f32} {harg11 : arg11.IsWhole} {arg12 : Memref sig .tc .vmem S1x256x512 .bf16} {harg12 : arg12.IsWhole}
    {arg13 : Memref sig .tc .vmem S1x256x512 .bf16} {harg13 : arg13.IsWhole} {arg14 : Memref sig .tc .vmem S1x128x512 .bf16} {harg14 : arg14.IsWhole}
    {arg15 : Memref sig .tc .vmem S1x128x512 .bf16} {harg15 : arg15.IsWhole} {arg16 : Memref sig .tc .vmem S1x128x512 .bf16} {harg16 : arg16.IsWhole}
    {arg17 : Memref sig .tc .vmem S1024x128 .f32} {harg17 : arg17.IsWhole} {arg18 : Memref sig .tc .vmem S1024x128 .f32} {harg18 : arg18.IsWhole}
    {arg21 : Memref sig .tc .vmem S1024x256 .bf16} {harg21 : arg21.IsWhole} {arg22 : Memref sig .tc .vmem S1024x1024 .bf16} {harg22 : arg22.IsWhole}
    {arg23 : Memref sig .tc .vmem S1024x256 .bf16} {harg23 : arg23.IsWhole} {arg24 : Memref sig .tc .vmem S1024x128 .bf16} {harg24 : arg24.IsWhole}
    {arg25 : Memref sig .tc .vmem S1024x512 .bf16} {harg25 : arg25.IsWhole} {arg26 : Memref sig .tc .vmem S1x1024x512 .bf16} {harg26 : arg26.IsWhole}
    {arg27 : Memref sig .tc .vmem S1x1024x512 .bf16} {harg27 : arg27.IsWhole} {x0 : Vec Ideal S1024x1024 .f32} {x1 : Vec Ideal S1x1x1024 .f32}
    {x2 : Vec Ideal S1x1x1x1024 .f32} {x3 : Vec Ideal S1x1x1x1024 .f32} {x4 : Vec Ideal S1x1024x2304 .bf16} {x5 : Vec Ideal S1x1x256 .f32}
    {x6 : Vec Ideal S1x512x128 .bf16} {x7 : Vec Ideal S1x128x256 .f32} {x8 : Vec Ideal S256x256 .bf16} {x9 : Vec Ideal S1x1x256 .f32} {x10 : Vec Ideal S1x1x128 .f32}
    {x11 : Vec Ideal S1x256x512 .bf16} {x12 : Vec Ideal S1x256x512 .bf16} {x13 : Vec Ideal S1x128x512 .bf16} {x14 : Vec Ideal S1x128x512 .bf16}
    {x15 : Vec Ideal S1x128x512 .bf16} {x16 : Vec Ideal S1024x128 .f32} {x17 : Vec Ideal S1024x128 .f32}

/-- What a grid point writes for the gated linear attention. -/
theorem out19 (r : Fin 1024) (k : Fin 1024) :
    @Eq EReal (out0_A_19 c i arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg21 harg21 arg22 harg22 arg23 harg23 arg24 harg24 arg25 harg25 arg26 harg26 arg27
      harg27 x0 x1 x2 x3 x4 x5 x6 x7 x8 x9 x10 x11 x12 x13 x14 x15 x16 x17 (ix2 r k)) (proj x0 x1 x2 x3 x4 r ⟨512 + k.val, by omega⟩) := by
  frame_out
  refine congrFun (halves 1024 (fun j => proj x0 x1 x2 x3 x4 (j 0) ⟨512 + (j 1).val, by have : (j 1).val < 1024 := (j 1).isLt; omega⟩) _ _ _ _ ?_ ?_) (ix2 r k)
  · exact fun q k => (pay11_at _ _ _ _ q _ k).trans (half_proj x0 x1 x2 x3 x4 512 512 (by decide) (by decide) q k _ rfl _ rfl)
  · exact fun q k => (pay4_at _ _ _ _ q _ k).trans (half_proj x0 x1 x2 x3 x4 0 512 (by decide) (by decide) q k _ (Nat.zero_add _).symm _ rfl)

/-- What a grid point writes for the S5 mixer. -/
theorem out20 (r : Fin 1024) (k : Fin 256) :
    @Eq EReal (out0_A_20 c i arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg21 harg21 arg22 harg22 arg23 harg23 arg24 harg24 arg25 harg25 arg26 harg26 arg27
      harg27 x0 x1 x2 x3 x4 x5 x6 x7 x8 x9 x10 x11 x12 x13 x14 x15 x16 x17 (ix2 r k)) (proj x0 x1 x2 x3 x4 r ⟨1536 + k.val, by omega⟩) := by
  frame_out
  refine congrFun (halves 256 (fun j => proj x0 x1 x2 x3 x4 (j 0) ⟨1536 + (j 1).val, by have : (j 1).val < 256 := (j 1).isLt; omega⟩) _ _ _ _ ?_ ?_) (ix2 r k)
  · exact fun q k => (pay12_at _ _ _ _ q _ k).trans (half_proj x0 x1 x2 x3 x4 512 1536 (by decide) (by decide) q k _ rfl _ rfl)
  · exact fun q k => (pay5_at _ _ _ _ q _ k).trans (half_proj x0 x1 x2 x3 x4 0 1536 (by decide) (by decide) q k _ (Nat.zero_add _).symm _ rfl)

/-- What a grid point writes for the decay. -/
theorem out21 (r : Fin 1024) (k : Fin 128) :
    @Eq EReal (out0_A_21 c i arg1 harg1 arg2 harg2 arg3 harg3 arg4 harg4 arg5 harg5 arg6 harg6 arg7 harg7 arg8 harg8 arg9 harg9 arg10 harg10 arg11 harg11 arg12 harg12
      arg13 harg13 arg14 harg14 arg15 harg15 arg16 harg16 arg17 harg17 arg18 harg18 arg21 harg21 arg22 harg22 arg23 harg23 arg24 harg24 arg25 harg25 arg26 harg26 arg27
      harg27 x0 x1 x2 x3 x4 x5 x6 x7 x8 x9 x10 x11 x12 x13 x14 x15 x16 x17 (ix2 r k)) (proj x0 x1 x2 x3 x4 r ⟨2176 + k.val, by omega⟩) := by
  frame_out
  refine congrFun (halves 128 (fun j => proj x0 x1 x2 x3 x4 (j 0) ⟨2176 + (j 1).val, by have : (j 1).val < 128 := (j 1).isLt; omega⟩) _ _ _ _ ?_ ?_) (ix2 r k)
  · exact fun q k => (pay13_at _ _ _ _ q _ k).trans (half_proj x0 x1 x2 x3 x4 512 2176 (by decide) (by decide) q k _ rfl _ rfl)
  · exact fun q k => (pay6_at _ _ _ _ q _ k).trans (half_proj x0 x1 x2 x3 x4 0 2176 (by decide) (by decide) q k _ (Nat.zero_add _).symm _ rfl)

end

end Cert.In
end
-- ==== Proof.InHost.lean ====
module

public import proofs.«01_k».proof.Proof.Gen.Kernel3Ideal.Value
public import proofs.«01_k».proof.Proof.MixMath
public import Idealize.ShloMosaic.Lib.Pipeline.ValueKit
public import Idealize.ShloMosaic.Lib.Pointwise
public import Idealize.ShloMosaic.Lib.StableHlo.RunRead

/-! The blocks a grid point of the input projections reads, down to the program's arguments. -/

@[expose] public section

set_option maxRecDepth 16384

noncomputable section

namespace Cert.In

open Idealize.ShloMosaic Idealize.ShloMosaic.TcCoe Idealize.SL.Sem Cert.Kernel3Ideal Cert.Kernel3Ideal.Gen
open Idealize.ShloMosaic.Pipeline (Dat)

/-- Which block each window holds at a grid point. -/
theorem idxP : ∀ t : Fin cfg0.N,
    win0_0.index t = ![t.val, 0]
    ∧ win0_1.index t = ![1, 0, 0]
    ∧ win0_2.index t = ![1, t.val / 8, 0, 1]
    ∧ win0_3.index t = ![1, t.val / 8, 0, 0]
    ∧ win0_4.index t = ![1, 0, 0]
    ∧ win0_19.index t = ![t.val, 0]
    ∧ win0_20.index t = ![t.val, 0]
    ∧ win0_21.index t = ![t.val, 0] :=
  (by decide +kernel : ∀ t : Fin grid0.N, _)

section
variable (c : Dev nD) (W : (b : Ref sig .tc) → Buf (Elt Ideal) ((c : Thread nD τ).loc b)) (t : Fin cfg0.N)

/-- A window's block at an index. -/
theorem rd0 (r : Fin 1024) (j : Fin 32768) (e : Fin 1024) (hj : j.val = 1024 * t.val + r.val) :
    ((cfg0.win 0).blk t).view.read (Elt Ideal) (W (Pipeline.arrRef spec0 0)) (ix2 r e) = W main_v138 (ix2 j e) := by
  blk_ext [idxP t]

/-- A window's block at an index. -/
theorem rd1 (e : Fin 1024) :
    ((cfg0.win 1).blk t).view.read (Elt Ideal) (W (Pipeline.arrRef spec0 1)) (ix3 0 0 e) = W main_v139 (ix3 1 0 e) := by
  blk_ext [idxP t]

/-- A window's block at an index. -/
theorem rd2 (b : Fin 8) (hb : b.val = t.val / 8) (e : Fin 1024) :
    ((cfg0.win 2).blk t).view.read (Elt Ideal) (W (Pipeline.arrRef spec0 2)) (ix4 0 0 0 e) = W main_v2 (ix4 1 b 0 ⟨1024 + e.val, by omega⟩) := by
  blk_ext [idxP t]

/-- A window's block at an index. -/
theorem rd3 (b : Fin 8) (hb : b.val = t.val / 8) (e : Fin 1024) :
    ((cfg0.win 3).blk t).view.read (Elt Ideal) (W (Pipeline.arrRef spec0 3)) (ix4 0 0 0 e) = W main_v2 (ix4 1 b 0 ⟨e.val, by omega⟩) := by
  blk_ext [idxP t]

/-- A window's block at an index. -/
theorem rd4 (e : Fin 1024) (k : Fin 2304) :
    ((cfg0.win 4).blk t).view.read (Elt Ideal) (W (Pipeline.arrRef spec0 4)) (ix3 0 e k) = W main_v12 (ix3 1 e k) := by
  blk_ext [idxP t]

/-- A result's block at an index. -/
theorem rd19 (A : Buf (Elt Ideal) ((c : Thread nD τ).loc (Pipeline.arrRef spec0 19))) (r : Fin 1024) (j : Fin 32768) (k : Fin 1024) (hj : j.val = 1024 * t.val + r.val) :
    ((cfg0.win 19).blk t).view.read (Elt Ideal) A (ix2 r k) = A (ix2 j k) := by
  blk_ext [idxP t]

/-- A result's block at an index. -/
theorem rd20 (A : Buf (Elt Ideal) ((c : Thread nD τ).loc (Pipeline.arrRef spec0 20))) (r : Fin 1024) (j : Fin 32768) (k : Fin 256) (hj : j.val = 1024 * t.val + r.val) :
    ((cfg0.win 20).blk t).view.read (Elt Ideal) A (ix2 r k) = A (ix2 j k) := by
  blk_ext [idxP t]

/-- A result's block at an index. -/
theorem rd21 (A : Buf (Elt Ideal) ((c : Thread nD τ).loc (Pipeline.arrRef spec0 21))) (r : Fin 1024) (j : Fin 32768) (k : Fin 128) (hj : j.val = 1024 * t.val + r.val) :
    ((cfg0.win 21).blk t).view.read (Elt Ideal) A (ix2 r k) = A (ix2 j k) := by
  blk_ext [idxP t]

end

section
variable (m : (ℓ : Loc nD τ sig) → Buf (Elt Ideal) ℓ) (c : Dev nD)

/-- The latents' rows at an index. -/
theorem host_x (j : Fin 32768) (b : Fin 4) (n : Fin 8192) (hj : j.val = 8192 * b.val + n.val) (e : Fin 1024) :
    @Eq EReal (V m c main_v138 (ix2 j e)) (m (c, Proc.tc.devRef main_arg0) (ix3 b n e)) := by
  after_reads_simp
  pointwise
  exact congrArg₂ (fun y z => m (c, Proc.tc.devRef main_arg0) (ix3 y z e)) (Fin.ext (by dsimp only; omega)) (Fin.ext (by dsimp only; omega))

/-- The norm's weight at an index. -/
theorem host_g (e : Fin 1024) : @Eq EReal (V m c main_v139 (ix3 1 0 e)) (m (c, Proc.tc.devRef main_arg2) (ix2 1 e)) := by
  after_reads_simp
  pointwise

/-- The modulation at an index. -/
theorem host_mod (b' : Fin 8) (b : Fin 4) (hb : b'.val = b.val) (k : Fin 6144) :
    @Eq EReal (V m c main_v2 (ix4 1 b' 0 k)) (m (c, Proc.tc.devRef main_arg1) (ix3 1 b k)) := by
  after_reads_simp
  pointwise
  have h4 : b'.val < 4 := by omega
  simp only [dif_pos h4]
  exact congrArg (fun z : Fin 4 => m (c, Proc.tc.devRef main_arg1) (ix3 1 z k)) (Fin.ext hb)

/-- The weight's columns for the gated linear attention. -/
theorem host_pb (e : Fin 1024) (k : Fin 1024) :
    @Eq EReal (V m c main_v12 (ix3 1 e ⟨512 + k.val, by omega⟩)) (m (c, Proc.tc.devRef main_arg3) (ix3 1 e ⟨512 + k.val, by omega⟩)) := by
  after_reads_simp
  pointwise
  after_reads_simp
  pointwise

/-- The weight's columns for the S5 mixer. -/
theorem host_pc (e : Fin 1024) (k : Fin 256) :
    @Eq EReal (V m c main_v12 (ix3 1 e ⟨1536 + k.val, by omega⟩)) (m (c, Proc.tc.devRef main_arg3) (ix3 1 e ⟨1568 + k.val, by omega⟩)) := by
  after_reads_simp
  pointwise
  rw [dif_neg (by omega), dif_neg (by omega), dif_pos (by omega)]
  after_reads_simp
  pointwise
  exact congrArg (fun z => m (c, Proc.tc.devRef main_arg3) (ix3 1 e z)) (Fin.ext (by dsimp only; omega))

/-- The weight's columns for the decay, and zeros after them. -/
theorem host_pg (e : Fin 1024) (k : Fin 128) :
    @Eq EReal (V m c main_v12 (ix3 1 e ⟨2176 + k.val, by omega⟩))
      (if h : k.val < 32 then m (c, Proc.tc.devRef main_arg3) (ix3 1 e ⟨1536 + k.val, by omega⟩) else (0 : EReal)) := by
  after_reads_simp
  pointwise
  rw [dif_neg (by omega), dif_neg (by omega), dif_neg (by omega), dif_neg (by omega), dif_neg (by omega), dif_neg (by omega)]
  by_cases hk : k.val < 32
  · rw [dif_pos hk, dif_pos (by omega)]
    after_reads_simp
    pointwise
    exact congrArg (fun z => m (c, Proc.tc.devRef main_arg3) (ix3 1 e z)) (Fin.ext (by dsimp only; omega))
  · rw [dif_neg hk, dif_neg (by omega)]
    after_reads_simp
    pointwise

end

end Cert.In
end
-- ==== Proof.InRef.lean ====
module

public import proofs.«01_k».proof.Proof.Gen.Reference3Ideal.Read
public import proofs.«01_k».proof.Proof.MixMath
public import Idealize.ShloMosaic.Lib.Pointwise

/-! The reference's stages for the input projections, row by row. -/

@[expose] public section

set_option maxRecDepth 16384

noncomputable section

namespace Cert.In

open Cert.Reference3Ideal Cert.Reference3Ideal.Gen Cert.Reference3Ideal.Read Idealize.ShloMosaic Idealize.ShloMosaic.StableHlo Cert.Mix

section
variable (x0 : FVec Ideal S4x8192x1024 .f32) (x1 : FVec Ideal S2x4x6144 .f32) (x2 : FVec Ideal S2x1024 .f32) (x3 : FVec Ideal S2x1024x2176 .f32) (b : Fin 4)

/-- The modulated latents. -/
def hx (n : Fin 8192) (e : Fin 1024) : EReal :=
  modul (fun e => x0 (ix3 b n e)) (fun e => x2 (ix2 1 e)) (fun e => x1 (ix3 1 b ⟨1024 + e.val, by omega⟩)) (fun e => x1 (ix3 1 b ⟨e.val, by omega⟩)) e

/-- The projections' columns. -/
def cols (n : Fin 8192) (f : Fin 2176) : EReal := ∑ e, hx x0 x1 x2 b n e * x3 (ix3 1 e f)

theorem v29_at (n : Fin 8192) (e : Fin 1024) :
    @Eq EReal (val_main_v29 (F := Ideal) x0 x1 x2 (ix3 b n e)) (hx x0 x1 x2 b n e) := by
  pointwise [val_main_v0, val_main_v1, val_main_v2, val_main_v3, val_main_v4, val_main_v9, val_main_v10, val_main_v11, val_main_cst, val_main_v12, val_main_v13, val_main_cst_0, val_main_v14, val_main_v15, val_main_cst_1, val_main_v16, val_main_v17, val_main_v18, val_main_v19, val_main_v20, val_main_v21, val_main_v22, val_main_v23, val_main_cst_2, val_main_v24, val_main_v25, val_main_v26, val_main_v27, val_main_v28, val_main_v29, hx, modul, rms]

theorem v32_at (n : Fin 8192) (f : Fin 2176) :
    @Eq EReal (val_main_v32 (F := Ideal) x0 x1 x2 x3 (ix3 b n f)) (cols x0 x1 x2 x3 b n f) := by
  have h := v29_at x0 x1 x2 b n
  unfold val_main_v32 cols
  generalize val_main_v29 (F := Ideal) x0 x1 x2 = M at *
  rw [← funext h]
  pointwise [val_main_v30, val_main_v31]

/-- The decay's columns with zeros after them. -/
def dec (n : Fin 8192) (k : Fin 128) : EReal := if h : k.val < 32 then cols x0 x1 x2 x3 b n ⟨1536 + k.val, by omega⟩ else 0

theorem v38_at (n : Fin 8192) (k : Fin 32) :
    @Eq EReal (val_main_v38 (F := Ideal) x0 x1 x2 x3 (ix3 b n k)) (cols x0 x1 x2 x3 b n ⟨1536 + k.val, by omega⟩) := by
  refine Eq.trans ?_ (v32_at x0 x1 x2 x3 b n _)
  dsimp only [val_main_v34, val_main_v38]
  generalize val_main_v32 (F := Ideal) x0 x1 x2 x3 = M
  pointwise
  exact congrArg (fun f => M (ix3 b n f)) (Fin.ext (by dsimp only; omega))

theorem v43_at (n : Fin 8192) (k : Fin 128) :
    @Eq EReal (val_main_v43 (F := Ideal) x0 x1 x2 x3 (ix3 b n k)) (dec x0 x1 x2 x3 b n k) := by
  have h := v38_at x0 x1 x2 x3 b n
  unfold val_main_v43 dec
  generalize val_main_v38 (F := Ideal) x0 x1 x2 x3 = M at *
  pointwise
  have hz : ∀ i, @Eq EReal (val_main_call0_v0 (F := Ideal) i) 0 := fun i => by
    pointwise [val_main_call0_v0, val_main_c]
    show (((0#32 : BitVec 32).toInt : ℝ) : EReal) = 0
    simp
  generalize val_main_call0_v0 (F := Ideal) = z at *
  by_cases hk : k.val < 32
  · rw [dif_pos hk, dif_pos hk]
    exact h ⟨k.val, hk⟩
  · rw [dif_neg hk, dif_neg hk]
    exact hz _

variable (j : Fin 32768) (n : Fin 8192) (hj : j.val = 8192 * b.val + n.val)
include hj

/-- The gated linear attention's columns. -/
theorem v40_at (k : Fin 1024) :
    @Eq EReal (val_main_v40 (F := Ideal) x0 x1 x2 x3 (ix2 j k)) (cols x0 x1 x2 x3 b n ⟨512 + k.val, by omega⟩) := by
  refine Eq.trans ?_ (v32_at x0 x1 x2 x3 b n _)
  dsimp only [val_main_v34, val_main_v37, val_main_v39, val_main_v40]
  generalize val_main_v32 (F := Ideal) x0 x1 x2 x3 = M
  pointwise
  exact congrArg₂ (fun y z => M (ix3 y z _)) (Fin.ext (by dsimp only; omega)) (Fin.ext (by dsimp only; omega))

/-- The S5 mixer's columns. -/
theorem v42_at (k : Fin 256) :
    @Eq EReal (val_main_v42 (F := Ideal) x0 x1 x2 x3 (ix2 j k)) (cols x0 x1 x2 x3 b n ⟨1568 + k.val, by omega⟩) := by
  refine Eq.trans ?_ (v32_at x0 x1 x2 x3 b n _)
  dsimp only [val_main_v35, val_main_v41, val_main_v42]
  generalize val_main_v32 (F := Ideal) x0 x1 x2 x3 = M
  pointwise
  exact congrArg₂ (fun y z => M (ix3 y z _)) (Fin.ext (by dsimp only; omega)) (Fin.ext (by dsimp only; omega))

/-- The decay's columns, row by row. -/
theorem v45_at (k : Fin 128) :
    @Eq EReal (val_main_v45 (F := Ideal) x0 x1 x2 x3 (ix2 j k)) (dec x0 x1 x2 x3 b n k) := by
  refine Eq.trans ?_ (v43_at x0 x1 x2 x3 b n k)
  dsimp only [val_main_v44, val_main_v45]
  generalize val_main_v43 (F := Ideal) x0 x1 x2 x3 = M
  pointwise
  exact congrArg₂ (fun y z => M (ix3 y z _)) (Fin.ext (by dsimp only; omega)) (Fin.ext (by dsimp only; omega))

end

end Cert.In
end
-- ==== Proof.InFinal.lean ====
module

public import proofs.«01_k».proof.Defs
public import proofs.«01_k».proof.Proof.Gen.Reference3Ideal.Run
public import proofs.«01_k».proof.Proof.InOut
public import proofs.«01_k».proof.Proof.InHost
public import proofs.«01_k».proof.Proof.InRef

/-! The input projections' results are the reference's. -/

@[expose] public section

set_option maxRecDepth 16384

noncomputable section

namespace Cert.In

open Idealize.ShloMosaic Idealize.ShloMosaic.TcCoe Idealize.SL.Sem Cert.Kernel3Ideal Cert.Kernel3Ideal.Gen Cert.Kernel3Ideal.Value Cert.Mix

section
variable (m : (ℓ : Loc nD τ sig) → Buf (Elt Ideal) ℓ) (c : Dev nD)

/-- The projections' columns, from the kernel's arguments. -/
abbrev colsK (b : Fin 4) (n : Fin 8192) (f : Fin 2176) : EReal :=
  cols (m (c, Proc.tc.devRef main_arg0)) (m (c, Proc.tc.devRef main_arg1)) (m (c, Proc.tc.devRef main_arg2)) (m (c, Proc.tc.devRef main_arg3)) b n f

/-- A column at a row of a grid point's block. -/
theorem proj_at (t : Fin cfg0.N) (r : Fin 1024) (b : Fin 4) (n : Fin 8192) (hn : 8192 * b.val + n.val = 1024 * t.val + r.val) (f : Fin 2304)
    (w : Fin 1024 → EReal) (hw : ∀ e, @Eq EReal (V m c main_v12 (ix3 1 e f)) (w e)) :
    proj (iblk m c 0 t) (iblk m c 1 t) (iblk m c 2 t) (iblk m c 3 t) (iblk m c 4 t) r f
      = ∑ e, hx (m (c, Proc.tc.devRef main_arg0)) (m (c, Proc.tc.devRef main_arg1)) (m (c, Proc.tc.devRef main_arg2)) b n e * w e := by
  have hx0 : (fun e => (iblk m c 0 t (ix2 r e) : EReal)) = fun e => m (c, Proc.tc.devRef main_arg0) (ix3 b n e) :=
    funext fun e => (rd0 c (V m c) t r ⟨8192 * b.val + n.val, by omega⟩ e hn).trans (host_x m c _ b n rfl e)
  have hg : (fun e => (iblk m c 1 t (ix3 0 0 e) : EReal)) = fun e => m (c, Proc.tc.devRef main_arg2) (ix2 1 e) :=
    funext fun e => (rd1 c (V m c) t e).trans (host_g m c e)
  have hsc : (fun e => (iblk m c 2 t (ix4 0 0 0 e) : EReal)) = fun e : Fin 1024 => m (c, Proc.tc.devRef main_arg1) (ix3 1 b ⟨1024 + e.val, by omega⟩) :=
    funext fun e => (rd2 c (V m c) t ⟨b.val, by omega⟩ (by dsimp only; omega) e).trans (host_mod m c _ b rfl _)
  have hsh : (fun e => (iblk m c 3 t (ix4 0 0 0 e) : EReal)) = fun e : Fin 1024 => m (c, Proc.tc.devRef main_arg1) (ix3 1 b ⟨e.val, by omega⟩) :=
    funext fun e => (rd3 c (V m c) t ⟨b.val, by omega⟩ (by dsimp only; omega) e).trans (host_mod m c _ b rfl _)
  unfold proj hx
  rw [hx0, hg, hsc, hsh]
  exact Finset.sum_congr rfl fun e _ => congrArg (fun z : EReal => _ * z) ((rd4 c (V m c) t e f).trans (hw e))

/-- No part of a written block is cut away. -/
theorem cut19 (t : Fin cfg0.N) (Y : Vec Ideal S1024x1024 .bf16) (r : Fin 1024) (k : Fin 1024) :
    @Eq EReal ((cfg0.win 19).cut (grid0.coords t) Y (ix2 r k)) (Y (ix2 r k)) := rfl

theorem cut20 (t : Fin cfg0.N) (Y : Vec Ideal S1024x256 .bf16) (r : Fin 1024) (k : Fin 256) :
    @Eq EReal ((cfg0.win 20).cut (grid0.coords t) Y (ix2 r k)) (Y (ix2 r k)) := rfl

theorem cut21 (t : Fin cfg0.N) (Y : Vec Ideal S1024x128 .bf16) (r : Fin 1024) (k : Fin 128) :
    @Eq EReal ((cfg0.win 21).cut (grid0.coords t) Y (ix2 r k)) (Y (ix2 r k)) := rfl

/-- The grid point and the row of its block that write a row of a result. -/
theorem place (j : Fin 32768) : ∃ (t : Fin cfg0.N) (r : Fin 1024), j.val = 1024 * t.val + r.val := by
  have hN : cfg0.N = 32 := N_0
  exact ⟨⟨j.val / 1024, by omega⟩, ⟨j.val % 1024, by omega⟩, by dsimp only; omega⟩

variable (j : Fin 32768) (b : Fin 4) (n : Fin 8192) (hj : j.val = 8192 * b.val + n.val)
include hj

/-- The kernel's result for the gated linear attention. -/
theorem result19 (k : Fin 1024) :
    @Eq EReal ((dats m 0 c).arrAt 19 cfg0.N (ix2 j k)) (colsK m c b n ⟨512 + k.val, by omega⟩) := by
  obtain ⟨t, r, ht⟩ := place j
  refine (rd19 c t _ r j k ht).symm.trans ?_
  refine (congrFun (blocks19 m c t (flush0_19 t)) (ix2 r k)).trans ?_
  rw [flushed19_A]
  refine (cut19 t _ r k).trans ((out19 r k).trans ?_)
  exact proj_at m c t r b n (by omega) _ _ fun e => host_pb m c e k

/-- The kernel's result for the S5 mixer. -/
theorem result20 (k : Fin 256) :
    @Eq EReal ((dats m 0 c).arrAt 20 cfg0.N (ix2 j k)) (colsK m c b n ⟨1568 + k.val, by omega⟩) := by
  obtain ⟨t, r, ht⟩ := place j
  refine (rd20 c t _ r j k ht).symm.trans ?_
  refine (congrFun (blocks20 m c t (flush0_20 t)) (ix2 r k)).trans ?_
  rw [flushed20_A]
  refine (cut20 t _ r k).trans ((out20 r k).trans ?_)
  exact proj_at m c t r b n (by omega) _ _ fun e => host_pc m c e k

/-- The kernel's result for the decay. -/
theorem result21 (k : Fin 128) :
    @Eq EReal ((dats m 0 c).arrAt 21 cfg0.N (ix2 j k))
      (dec (m (c, Proc.tc.devRef main_arg0)) (m (c, Proc.tc.devRef main_arg1)) (m (c, Proc.tc.devRef main_arg2)) (m (c, Proc.tc.devRef main_arg3)) b n k) := by
  obtain ⟨t, r, ht⟩ := place j
  refine (rd21 c t _ r j k ht).symm.trans ?_
  refine (congrFun (blocks21 m c t (flush0_21 t)) (ix2 r k)).trans ?_
  rw [flushed21_A]
  refine (cut21 t _ r k).trans ((out21 r k).trans ?_)
  refine (proj_at m c t r b n (by omega) _ _ fun e => host_pg m c e k).trans ?_
  unfold dec
  by_cases hk : k.val < 32
  · simp only [dif_pos hk]
    rfl
  · simp only [dif_neg hk, mul_zero, Finset.sum_const_zero]

end

/-- A row of a result lies in a sample. -/
theorem sample (j : Fin 32768) : ∃ (b : Fin 4) (n : Fin 8192), j.val = 8192 * b.val + n.val :=
  ⟨⟨j.val / 8192, by omega⟩, ⟨j.val % 8192, by omega⟩, by dsimp only; omega⟩

section
open Cert.Kernel3Ideal
variable (m : (ℓ : Loc nD τ sig) → Buf (Elt Ideal) ℓ) (c : Dev nD) (x0 x1 x2 x3) (e0 : x0 = m (c, Proc.tc.devRef main_arg0)) (e1 : x1 = m (c, Proc.tc.devRef main_arg1)) (e2 : x2 = m (c, Proc.tc.devRef main_arg2)) (e3 : x3 = m (c, Proc.tc.devRef main_arg3))
include e0 e1 e2 e3

/-- The kernel's first result is the reference's function of the same arrays. -/
theorem final19 : (dats m 0 c).arrAt 19 cfg0.N = Cert.Reference3Ideal.Read.val_main_v40 (F := Ideal) x0 x1 x2 x3 := by
  subst e0 e1 e2 e3
  funext i
  obtain ⟨j, k, rfl⟩ : ∃ (j : Fin 32768) (k : Fin 1024), i = ix2 j k := ⟨i 0, i 1, eq_ix2 i⟩
  obtain ⟨b, n, hj⟩ := sample j
  exact (result19 m c j b n hj k).trans (v40_at _ _ _ _ b j n hj k).symm

/-- The kernel's second result is the reference's. -/
theorem final20 : (dats m 0 c).arrAt 20 cfg0.N = Cert.Reference3Ideal.Read.val_main_v42 (F := Ideal) x0 x1 x2 x3 := by
  subst e0 e1 e2 e3
  funext i
  obtain ⟨j, k, rfl⟩ : ∃ (j : Fin 32768) (k : Fin 256), i = ix2 j k := ⟨i 0, i 1, eq_ix2 i⟩
  obtain ⟨b, n, hj⟩ := sample j
  exact (result20 m c j b n hj k).trans (v42_at _ _ _ _ b j n hj k).symm

/-- The kernel's third result is the reference's. -/
theorem final21 : (dats m 0 c).arrAt 21 cfg0.N = Cert.Reference3Ideal.Read.val_main_v45 (F := Ideal) x0 x1 x2 x3 := by
  subst e0 e1 e2 e3
  funext i
  obtain ⟨j, k, rfl⟩ : ∃ (j : Fin 32768) (k : Fin 128), i = ix2 j k := ⟨i 0, i 1, eq_ix2 i⟩
  obtain ⟨b, n, hj⟩ := sample j
  exact (result21 m c j b n hj k).trans (v45_at _ _ _ _ b j n hj k).symm

end

/-- The input projections: the two programs end with equal results. -/
theorem algebraic : Cert.algebraic_Kernel3Ideal_Reference3Ideal := by
  pair_intro
  · run_from Cert.Kernel3Ideal.Value.run_blocks m g
  · run_from Cert.Reference3Ideal.Value.run m' g'
    · exact (Cert.Reference3Ideal.Read.val_main_v40_eq (F := Ideal) _ _ _ _).trans (final19 m c _ _ _ _ rfl rfl rfl rfl).symm
    · exact (Cert.Reference3Ideal.Read.val_main_v42_eq (F := Ideal) _ _ _ _).trans (final20 m c _ _ _ _ rfl rfl rfl rfl).symm
    · exact (Cert.Reference3Ideal.Read.val_main_v45_eq (F := Ideal) _ _ _ _).trans (final21 m c _ _ _ _ rfl rfl rfl rfl).symm

end Cert.In
end
-- ==== Proof.ModOut.lean ====
module

public import proofs.«01_k».proof.Proof.Gen.Kernel4Ideal.Value
public import proofs.«01_k».proof.Proof.Gen.Reference4Ideal.Read
public import proofs.«01_k».proof.Proof.MixMath
public import Idealize.ShloMosaic.Lib.Pipeline.ValueKit
public import Idealize.ShloMosaic.Lib.Pointwise
public import Idealize.ShloMosaic.Lib.StableHlo.RunRead

/-! The modulation's arithmetic at an index, and the blocks a grid point reads and writes. -/

@[expose] public section

set_option maxRecDepth 16384

noncomputable section

namespace Cert.Mod

open Idealize.ShloMosaic Idealize.ShloMosaic.TcCoe Idealize.SL.Sem Cert.Kernel4Ideal Cert.Kernel4Ideal.Gen Cert.Kernel4Ideal.Value

/-- A number times its logistic function. -/
def sil (z : EReal) : EReal := z * Ideal.div 1 (1 + Ideal.exp (0 - z))

/-- It is real for a real number. -/
theorem sil_real (a : ℝ) : ∃ r : ℝ, sil (a : EReal) = (r : EReal) := by
  have h : (0 : ℝ) < 1 + Real.exp (-a) := add_pos one_pos (Real.exp_pos _)
  refine ⟨a * (1 * (1 / (1 + Real.exp (-a)))), ?_⟩
  have e : (1 : EReal) + Ideal.exp (0 - (a : EReal)) = ((1 + Real.exp (-a) : ℝ) : EReal) := by
    rw [zero_sub, ← EReal.coe_neg, Ideal.exp_coe]
    push_cast
    rfl
  unfold sil
  rw [e, Ideal.div_coe h.ne']
  push_cast
  rfl

/-- A product in three parts, each factor a value and a remainder, where the remainders are zero. -/
theorem parts {n : ℕ} (s w : Fin n → EReal) (hs : ∀ e, ∃ r : ℝ, s e = (r : EReal)) (hw : ∀ e, ∃ r : ℝ, w e = (r : EReal)) :
    ∑ e, s e * w e + ∑ e, (s e - s e) * w e + ∑ e, s e * (w e - w e) = ∑ e, s e * w e := by
  have z : ∀ a : EReal, (∃ r : ℝ, a = (r : EReal)) → a - a = 0 := by
    rintro a ⟨r, rfl⟩
    rw [← EReal.coe_sub, sub_self, EReal.coe_zero]
  simp only [z _ (hs _), z _ (hw _), zero_mul, mul_zero, Finset.sum_const_zero, add_zero]

/-- What a grid point computes from real numbers. -/
theorem pay1_at (x : FVec Ideal S8x1024 .f32) (w : FVec Ideal S1x1024x1536 .f32) (b : FVec Ideal S1x1x1536 .f32) (r : Fin 8) (k : Fin 1536)
    (hx : ∀ e, ∃ a : ℝ, @Eq EReal (x (ix2 r e)) a) (hw : ∀ e, ∃ a : ℝ, @Eq EReal (w (ix3 0 e k)) a) :
    @Eq EReal (k0_pay1 (F := Ideal) x w b (ix3 0 r k)) (∑ e, sil (x (ix2 r e)) * w (ix3 0 e k) + b (ix3 0 0 k)) := by
  have hs : ∀ e, ∃ a : ℝ, sil (x (ix2 r e)) = (a : EReal) := fun e => by
    obtain ⟨a, ha⟩ := hx e
    rw [ha]
    exact sil_real a
  rw [← parts (fun e => sil (x (ix2 r e))) (fun e => w (ix3 0 e k)) hs hw]
  pointwise [k0_pay1, sil]

/-- What a grid point writes from real numbers. -/
theorem out3 (x : Vec Ideal S8x1024 .f32) (w : Vec Ideal S1x1024x1536 .f32) (b : Vec Ideal S1x1x1536 .f32) (r : Fin 8) (k : Fin 1536)
    (hx : ∀ e, ∃ a : ℝ, @Eq EReal (x (ix2 r e)) a) (hw : ∀ e, ∃ a : ℝ, @Eq EReal (w (ix3 0 e k)) a) :
    @Eq EReal (out0_3 x w b (ix3 0 r k)) (∑ e, sil (x (ix2 r e)) * w (ix3 0 e k) + b (ix3 0 0 k)) := by
  refine Eq.trans ?_ (pay1_at x w b r k hx hw)
  frame_out

/-- Which block each window holds at a grid point. -/
theorem idxP : ∀ t : Fin cfg0.N,
    win0_0.index t = ![0, 0]
    ∧ win0_1.index t = ![t.val / 4, 0, t.val % 4]
    ∧ win0_2.index t = ![t.val / 4, 0, t.val % 4]
    ∧ win0_3.index t = ![t.val / 4, 0, t.val % 4] :=
  (by decide +kernel : ∀ t : Fin grid0.N, _)

section
variable (c : Dev nD) (W : (b : Ref sig .tc) → Buf (Elt Ideal) ((c : Thread nD τ).loc b)) (t : Fin cfg0.N) (l : Fin 2) (hl : l.val = t.val / 4)
  (k : Fin 1536) (j : Fin 6144) (hj : j.val = 1536 * (t.val % 4) + k.val)

/-- A window's block at an index. -/
theorem rd0 (r : Fin 8) (e : Fin 1024) :
    ((cfg0.win 0).blk t).view.read (Elt Ideal) (W (Pipeline.arrRef spec0 0)) (ix2 r e) = W main_v2 (ix2 r e) := by
  blk_ext [idxP t]

include hl hj

/-- A window's block at an index. -/
theorem rd1 (e : Fin 1024) :
    ((cfg0.win 1).blk t).view.read (Elt Ideal) (W (Pipeline.arrRef spec0 1)) (ix3 0 e k) = W main_arg2 (ix3 l e j) := by
  blk_ext [idxP t]

/-- A window's block at an index. -/
theorem rd2 :
    ((cfg0.win 2).blk t).view.read (Elt Ideal) (W (Pipeline.arrRef spec0 2)) (ix3 0 0 k) = W main_v3 (ix3 l 0 j) := by
  blk_ext [idxP t]

/-- The result's block at an index. -/
theorem rd3 (A : Buf (Elt Ideal) ((c : Thread nD τ).loc (Pipeline.arrRef spec0 3))) (r : Fin 8) :
    ((cfg0.win 3).blk t).view.read (Elt Ideal) A (ix3 0 r k) = A (ix3 l r j) := by
  blk_ext [idxP t]

end

section
variable (m : (ℓ : Loc nD τ sig) → Buf (Elt Ideal) ℓ) (c : Dev nD)

/-- The conditioning rows are the reference's. -/
theorem host_c : V m c main_v2 = Cert.Reference4Ideal.Read.val_main_v2 (F := Ideal) (m (c, Proc.tc.devRef main_arg0)) (m (c, Proc.tc.devRef main_arg1)) := by
  after_reads_simp
  rfl

/-- The weight. -/
theorem host_w : V m c main_arg2 = m (c, Proc.tc.devRef main_arg2) := V_main_arg2 m c

/-- The bias at an index. -/
theorem host_b (l : Fin 2) (j : Fin 6144) : @Eq EReal (V m c main_v3 (ix3 l 0 j)) (m (c, Proc.tc.devRef main_arg3) (ix2 l j)) := by
  after_reads_simp
  pointwise

end

/-- No part of a written block is cut away. -/
theorem cut3 (t : Fin cfg0.N) (Y : Vec Ideal S1x8x1536 .f32) (r : Fin 8) (k : Fin 1536) :
    @Eq EReal ((cfg0.win 3).cut (grid0.coords t) Y (ix3 0 r k)) (Y (ix3 0 r k)) := rfl

end Cert.Mod
end
-- ==== Proof.ModFinal.lean ====
module

public import proofs.«01_k».proof.Defs
public import proofs.«01_k».proof.Proof.Gen.Reference4Ideal.Run
public import proofs.«01_k».proof.Proof.Gen.Pre_finite_modulation
public import proofs.«01_k».proof.Proof.AttnFinal
public import proofs.«01_k».proof.Proof.ModOut

/-! The modulation's result is the reference's. -/

@[expose] public section

set_option maxRecDepth 16384

noncomputable section

namespace Cert.Mod

open Idealize.ShloMosaic Idealize.ShloMosaic.TcCoe Idealize.SL.Sem

section
open Cert.Reference4Ideal Cert.Reference4Ideal.Read
variable (x0 : FVec Ideal S4x1024 .f32) (x1 : FVec Ideal S1024 .f32) (x2 : FVec Ideal S2x1024x6144 .f32) (x3 : FVec Ideal S2x6144 .f32)

/-- The reference's result at an index. -/
theorem ref_at (l : Fin 2) (r : Fin 8) (j : Fin 6144) :
    @Eq EReal (val_main_v8 (F := Ideal) x0 x1 x2 x3 (ix3 l r j))
      (∑ e, sil (val_main_v2 (F := Ideal) x0 x1 (ix2 r e)) * x2 (ix3 l e j) + x3 (ix2 l j)) := by
  have h : ∀ e, @Eq EReal (val_main_v3 (F := Ideal) x0 x1 (ix2 r e)) (sil (val_main_v2 (F := Ideal) x0 x1 (ix2 r e))) := fun e => by
    unfold val_main_v3 val_main_call0_v5 val_main_call0_v4 val_main_call0_v3 val_main_call0_v2 val_main_call0_v1 val_main_call0_v0 sil
    generalize val_main_v2 (F := Ideal) x0 x1 = C
    rw [zero_sub]
    pointwise [val_main_call0_cst, val_main_call0_cst_0]
  simp only [← h]
  unfold val_main_v8 val_main_v7 val_main_v6 val_main_v5 val_main_v4
  generalize val_main_v3 (F := Ideal) x0 x1 = C
  pointwise

/-- The conditioning rows are real where both arguments are. -/
theorem rows_real (h0 : ∀ i, ∃ a : ℝ, @Eq EReal (x0 i) a) (h1 : ∀ i, ∃ a : ℝ, @Eq EReal (x1 i) a) (r : Fin 8) (e : Fin 1024) :
    ∃ a : ℝ, @Eq EReal (val_main_v2 (F := Ideal) x0 x1 (ix2 r e)) a := by
  pointwise [val_main_v2, val_main_v1, val_main_v0, val_main_cst]
  by_cases h4 : r.val < 4
  · simp only [dif_pos h4]
    exact h0 _
  · by_cases h5 : r.val - 4 < 1
    · simp only [dif_neg h4, dif_pos h5]
      exact h1 _
    · simp only [dif_neg h4, dif_neg h5]
      exact ⟨0, EReal.coe_zero.symm⟩

end

/-- Under the precondition the conditioning vectors and the weight hold real numbers. -/
theorem reals (x0 : FVec Ideal Cert.Pre_finite_modulation.S4x1024 .f32) (x1 : FVec Ideal Cert.Pre_finite_modulation.S1024 .f32)
    (x2 : FVec Ideal Cert.Pre_finite_modulation.S2x1024x6144 .f32) (x3 : FVec Ideal Cert.Pre_finite_modulation.S2x6144 .f32)
    (h : Cert.Pre_finite_modulation.fn (F := Ideal) x0 x1 x2 x3 = fun _ => 1#1) :
    (∀ i, ∃ a : ℝ, @Eq EReal (x0 i) a) ∧ (∀ i, ∃ a : ℝ, @Eq EReal (x1 i) a) ∧ ∀ i, ∃ a : ℝ, @Eq EReal (x2 i) a := by
  have h1 := congrFun h (fun a => a.elim0)
  have : Subsingleton Cert.Pre_finite_modulation.S_.Idx := ⟨fun a b => funext fun k => k.elim0⟩
  obtain ⟨h2, h5⟩ := IntOp.andi_eq_one.mp h1
  obtain ⟨h3, h4⟩ := IntOp.andi_eq_one.mp h2
  exact ⟨fun i => ⟨_, Cert.Attn.real_of_lt x0 _ _ i (Host.reduce_andi_all _ _ _ _ _ h3 i)⟩,
    fun i => ⟨_, Cert.Attn.real_of_lt x1 _ _ i (Host.reduce_andi_all _ _ _ _ _ h4 i)⟩,
    fun i => ⟨_, Cert.Attn.real_of_lt x2 _ _ i (Host.reduce_andi_all _ _ _ _ _ h5 i)⟩⟩

section
open Cert.Kernel4Ideal Cert.Kernel4Ideal.Gen Cert.Kernel4Ideal.Value

/-- The grid point and the column of its block that write a column of a layer. -/
theorem place (l : Fin 2) (j : Fin 6144) : ∃ (t : Fin cfg0.N) (k : Fin 1536), l.val = t.val / 4 ∧ j.val = 1536 * (t.val % 4) + k.val := by
  have hN : cfg0.N = 8 := N_0
  exact ⟨⟨4 * l.val + j.val / 1536, by omega⟩, ⟨j.val % 1536, by omega⟩, by dsimp only; omega, by dsimp only; omega⟩

/-- The kernel's result is the reference's function of the same arrays. -/
theorem final (m : (ℓ : Loc nD τ sig) → Buf (Elt Ideal) ℓ) (c : Dev nD) (x0 x1 x2 x3)
    (e0 : x0 = m (c, Proc.tc.devRef main_arg0)) (e1 : x1 = m (c, Proc.tc.devRef main_arg1)) (e2 : x2 = m (c, Proc.tc.devRef main_arg2))
    (e3 : x3 = m (c, Proc.tc.devRef main_arg3)) (hp : Cert.Pre_finite_modulation.fn (F := Ideal) x0 x1 x2 x3 = fun _ => 1#1) :
    (dats m 0 c).arrAt 3 cfg0.N = Cert.Reference4Ideal.Read.val_main_v8 (F := Ideal) x0 x1 x2 x3 := by
  obtain ⟨r0, r1, r2⟩ := reals _ _ _ _ hp
  funext i
  obtain ⟨l, r, j, rfl⟩ : ∃ (l : Fin 2) (r : Fin 8) (j : Fin 6144), i = ix3 l r j := ⟨i 0, i 1, i 2, (ix3_eta i).symm⟩
  obtain ⟨t, k, hl, hj⟩ := place l j
  have hx : ∀ e, @Eq EReal (iblk m c 0 t (ix2 r e)) (Cert.Reference4Ideal.Read.val_main_v2 (F := Ideal) x0 x1 (ix2 r e)) := fun e => by
    rw [e0, e1]
    exact (rd0 c (V m c) t r e).trans (congrFun (host_c m c) _)
  have hw : ∀ e, @Eq EReal (iblk m c 1 t (ix3 0 e k)) (x2 (ix3 l e j)) := fun e => by
    rw [e2]
    exact (rd1 c (V m c) t l hl k j hj e).trans (congrFun (host_w m c) _)
  have hb : @Eq EReal (iblk m c 2 t (ix3 0 0 k)) (x3 (ix2 l j)) := by
    rw [e3]
    exact (rd2 c (V m c) t l hl k j hj).trans (host_b m c l j)
  refine Eq.trans ?_ (ref_at x0 x1 x2 x3 l r j).symm
  refine (rd3 c t l hl k j hj _ r).symm.trans ?_
  refine (congrFun (blocks3 m c t (flush0_3 t)) (ix3 0 r k)).trans ?_
  rw [flushed3]
  refine (cut3 t _ r k).trans ((out3 _ _ _ r k (fun e => ?_) fun e => ?_).trans ?_)
  · rw [hx]
    exact rows_real x0 x1 r0 r1 r e
  · rw [hw]
    exact r2 _
  · simp only [hx, hw, hb]

end

/-- The modulation: the two programs end with equal results. -/
theorem algebraic : Cert.algebraic_Kernel4Ideal_Reference4Ideal_pre_finite_modulation := by
  pair_intro
  · run_from Cert.Kernel4Ideal.Value.run_blocks m g
  · run_from Cert.Reference4Ideal.Value.run m' g'
    exact (Cert.Reference4Ideal.Read.val_main_v8_eq (F := Ideal) _ _ _ _).trans (final m c _ _ _ _ rfl rfl rfl rfl (hpre c)).symm

end Cert.Mod
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2
public import proofs.«01_k».proof.Proof.Gen.Pre_finite_scores
public import proofs.«01_k».proof.Proof.Gen.Pre_finite_modulation
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Reference2Ideal.Read
public import proofs.«01_k».proof.Proof.Gen.Reference2Ideal.Run
public import proofs.«01_k».proof.Proof.Gen.Reference.Run
public import proofs.«01_k».proof.Proof.Gen.Reference2.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3
public import proofs.«01_k».proof.Proof.Gen.Reference3Ideal.Read
public import proofs.«01_k».proof.Proof.Gen.Reference3Ideal.Run
public import proofs.«01_k».proof.Proof.Gen.Reference3.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4
public import proofs.«01_k».proof.Proof.Gen.Reference4Ideal.Read
public import proofs.«01_k».proof.Proof.Gen.Reference4Ideal.Run
public import proofs.«01_k».proof.Proof.Gen.Reference4.Run
public import proofs.«01_k».proof.Proof.AttnFinal
public import proofs.«01_k».proof.Proof.Mix0Frame
public import proofs.«01_k».proof.Proof.MixFrame
public import proofs.«01_k».proof.Proof.MixFinal
public import proofs.«01_k».proof.Proof.InFinal
public import proofs.«01_k».proof.Proof.ModFinal
public import Idealize.ShloMosaic.Adequacy
public import Idealize.ShloMosaic.Init

@[expose] public section

noncomputable section

namespace Cert.Proof

open Idealize.ShloMosaic Idealize.SL.Sem Cert.Kernel

/-- The attention as printed runs to completion, leaves its arguments unchanged and its counters at zero. -/
theorem attention : Cert.quiescent_Kernel := fun m g _ => Cert.Kernel.Gen.frame m g

/-- The same of its idealization. -/
theorem attention_ideal : Cert.quiescent_KernelIdeal := fun m g _ => Cert.KernelIdeal.Gen.frame m g

/-- The same of its idealization from memories with finite scores. -/
theorem attention_finite : Cert.quiescent_KernelIdeal_pre_finite_scores := fun m g _ => Cert.KernelIdeal.Gen.frame m g

/-- The attention's reference, idealized, runs to completion and leaves its arguments unchanged. -/
theorem attention_reference_ideal : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The same from memories with finite scores. -/
theorem attention_reference_finite : Cert.quiescent_ReferenceIdeal_pre_finite_scores := fun m g _ =>
  (θ_run Cert.ReferenceIdeal.defs _ _).mono (fun r h => ⟨fun c => (h c).2, sem_eq_zero_of_no_sems (by decide) r.2⟩) (Cert.ReferenceIdeal.Value.run m g)

/-- The same of the attention's reference as printed. -/
theorem attention_reference : Cert.quiescent_Reference := fun m g _ =>
  (θ_run Cert.Reference.defs _ _).mono (fun r h => ⟨fun c => (h c).2, sem_eq_zero_of_no_sems (by decide) r.2⟩) (Cert.Reference.Value.run m g)

/-- The mixers' output with its feed-forward as printed runs to completion, leaves its arguments unchanged and its counters at zero. -/
theorem mix : Cert.quiescent_Kernel2 := fun m g _ => Cert.Kernel2.Mix.frame m g

/-- The same of its idealization. -/
theorem mix_ideal : Cert.quiescent_Kernel2Ideal := fun m g _ => Cert.Kernel2Ideal.Mix.frame m g

/-- The second reference, idealized, runs to completion and leaves its arguments unchanged. -/
theorem mix_reference_ideal : Cert.quiescent_Reference2Ideal := fun m g _ =>
  (θ_run Cert.Reference2Ideal.defs _ _).mono (fun r h => ⟨fun c => (h c).2, sem_eq_zero_of_no_sems (by decide) r.2⟩) (Cert.Reference2Ideal.Value.run m g)

/-- The same of the second reference as printed. -/
theorem mix_reference : Cert.quiescent_Reference2 := fun m g _ =>
  (θ_run Cert.Reference2.defs _ _).mono (fun r h => ⟨fun c => (h c).2, sem_eq_zero_of_no_sems (by decide) r.2⟩) (Cert.Reference2.Value.run m g)

/-- The one named constant of the second kernel rounds to the word that is printed. -/
theorem mix_preserves : Cert.preserves_Kernel2_Kernel2Ideal :=
  IdealRules.named_const.statement _ _ _ _ _ rfl

/-- The input projections' kernel as printed runs to completion, leaves its arguments unchanged and its counters at zero. -/
theorem inproj : Cert.quiescent_Kernel3 := fun m g _ => Cert.Kernel3.Gen.frame m g

/-- The same of its idealization. -/
theorem inproj_ideal : Cert.quiescent_Kernel3Ideal := fun m g _ => Cert.Kernel3Ideal.Gen.frame m g

/-- The third reference, idealized, runs to completion and leaves its arguments unchanged. -/
theorem inproj_reference_ideal : Cert.quiescent_Reference3Ideal := fun m g _ =>
  (θ_run Cert.Reference3Ideal.defs _ _).mono (fun r h => ⟨fun c => (h c).2.2.2, sem_eq_zero_of_no_sems (by decide) r.2⟩) (Cert.Reference3Ideal.Value.run m g)

/-- The same of the third reference as printed. -/
theorem inproj_reference : Cert.quiescent_Reference3 := fun m g _ =>
  (θ_run Cert.Reference3.defs _ _).mono (fun r h => ⟨fun c => (h c).2.2.2, sem_eq_zero_of_no_sems (by decide) r.2⟩) (Cert.Reference3.Value.run m g)

/-- The modulation as printed runs to completion, leaves its arguments unchanged and its counters at zero. -/
theorem modulation : Cert.quiescent_Kernel4 := fun m g _ => Cert.Kernel4.Gen.frame m g

/-- The same of its idealization. -/
theorem modulation_ideal : Cert.quiescent_Kernel4Ideal := fun m g _ => Cert.Kernel4Ideal.Gen.frame m g

/-- The same of its idealization from memories with finite conditioning vectors and a finite weight. -/
theorem modulation_finite : Cert.quiescent_Kernel4Ideal_pre_finite_modulation := fun m g _ => Cert.Kernel4Ideal.Gen.frame m g

/-- The fourth reference, idealized, runs to completion and leaves its arguments unchanged. -/
theorem modulation_reference_ideal : Cert.quiescent_Reference4Ideal := fun m g _ =>
  (θ_run Cert.Reference4Ideal.defs _ _).mono (fun r h => ⟨fun c => (h c).2, sem_eq_zero_of_no_sems (by decide) r.2⟩) (Cert.Reference4Ideal.Value.run m g)

/-- The same from memories with finite conditioning vectors and a finite weight. -/
theorem modulation_reference_finite : Cert.quiescent_Reference4Ideal_pre_finite_modulation := fun m g _ =>
  (θ_run Cert.Reference4Ideal.defs _ _).mono (fun r h => ⟨fun c => (h c).2, sem_eq_zero_of_no_sems (by decide) r.2⟩) (Cert.Reference4Ideal.Value.run m g)

/-- The same of the fourth reference as printed. -/
theorem modulation_reference : Cert.quiescent_Reference4 := fun m g _ =>
  (θ_run Cert.Reference4.defs _ _).mono (fun r h => ⟨fun c => (h c).2, sem_eq_zero_of_no_sems (by decide) r.2⟩) (Cert.Reference4.Value.run m g)

theorem claim : Cert.Claim := ⟨Cert.Kernel.Gen.facts, Cert.KernelIdeal.Gen.facts, Cert.ReferenceIdeal.Gen.facts, Cert.Reference.Gen.facts, Cert.Kernel2.Gen.facts, Cert.Kernel2Ideal.Gen.facts, Cert.Reference2Ideal.Gen.facts, Cert.Reference2.Gen.facts, Cert.Kernel3.Gen.facts, Cert.Kernel3Ideal.Gen.facts, Cert.Reference3Ideal.Gen.facts, Cert.Reference3.Gen.facts,
  Cert.Kernel4.Gen.facts, Cert.Kernel4Ideal.Gen.facts, Cert.Reference4Ideal.Gen.facts, Cert.Reference4.Gen.facts, Cert.Pre_finite_scores.Gen.facts, Cert.Pre_finite_modulation.Gen.facts, by
  exact ⟨attention, attention_ideal, attention_finite, attention_reference_ideal, attention_reference_finite, attention_reference, mix, mix_ideal,
    mix_reference_ideal, mix_reference, inproj, inproj_ideal, inproj_reference_ideal, inproj_reference,
    modulation, modulation_ideal, modulation_finite, modulation_reference_ideal, modulation_reference_finite, modulation_reference, trivial, trivial, Cert.Attn.algebraic, mix_preserves, trivial, Cert.Mix.algebraic,
    trivial, trivial, Cert.In.algebraic, trivial, trivial, Cert.Mod.algebraic⟩⟩

end Cert.Proof

end
